-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v126) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S512x512 : Shape := ⟨2, ![512, 512]⟩
abbrev S8x64x512 : Shape := ⟨3, ![8, 64, 512]⟩
abbrev S64x512 : Shape := ⟨2, ![64, 512]⟩
abbrev S8 : Shape := ⟨1, ![8]⟩
abbrev S_ : Shape := ⟨0, ![]⟩
abbrev S512 : Shape := ⟨1, ![512]⟩
abbrev S1 : Shape := ⟨1, ![1]⟩
abbrev S1x64x512 : Shape := ⟨3, ![1, 64, 512]⟩
abbrev S64x1 : Shape := ⟨2, ![64, 1]⟩

abbrev nBuf : Space → Nat
  | .hbm => 5
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S512x1, .i32⟩
  | .local _ .vmem, ⟨2, _⟩ => ⟨S2x256x512, .f32⟩
  | .local _ .vmem, ⟨3, _⟩ => ⟨S512x512, .f32⟩
  | .local _ .vmem, ⟨4, _⟩ => ⟨S512x512, .i8⟩
  | .local _ .vmem, ⟨5, _⟩ => ⟨S512x1, .f32⟩
  | .local _ .vmem, ⟨6, _⟩ => ⟨S8x64x512, .i8⟩
  | .local _ .vmem, ⟨7, _⟩ => ⟨S64x512, .i8⟩
  | .local _ .vmem, ⟨8, _⟩ => ⟨S8x64x512, .i8⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_123 : BitVec 32 := 0#32
  let c0_i32_121 : BitVec 32 := 0#32
  let c1_i32_122 : BitVec 32 := 1#32
  let v213 : BitVec 32 := Scalar.muli c0_i32_121 c1_i32_122
  let v214 : BitVec 32 := Scalar.addi c0_i32_123 v213
  v214.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_123 : BitVec 32 := 0#32
  let c1_i32_121 : BitVec 32 := 1#32
  let c1_i32_122 : BitVec 32 := 1#32
  let v213 : BitVec 32 := Scalar.muli c1_i32_121 c1_i32_122
  let v214 : BitVec 32 := Scalar.addi c0_i32_123 v213
  v214.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_123 : BitVec 32 := 0#32
  let c2_i32_121 : BitVec 32 := 2#32
  let c1_i32_122 : BitVec 32 := 1#32
  let v213 : BitVec 32 := Scalar.muli c2_i32_121 c1_i32_122
  let v214 : BitVec 32 := Scalar.addi c0_i32_123 v213
  v214.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_123 : BitVec 32 := 0#32
  let c3_i32_121 : BitVec 32 := 3#32
  let c1_i32_122 : BitVec 32 := 1#32
  let v213 : BitVec 32 := Scalar.muli c3_i32_121 c1_i32_122
  let v214 : BitVec 32 := Scalar.addi c0_i32_123 v213
  v214.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_123 : BitVec 32 := 0#32
  let c4_i32_121 : BitVec 32 := 4#32
  let c1_i32_122 : BitVec 32 := 1#32
  let v213 : BitVec 32 := Scalar.muli c4_i32_121 c1_i32_122
  let v214 : BitVec 32 := Scalar.addi c0_i32_123 v213
  v214.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_123 : BitVec 32 := 0#32
  let c5_i32_121 : BitVec 32 := 5#32
  let c1_i32_122 : BitVec 32 := 1#32
  let v213 : BitVec 32 := Scalar.muli c5_i32_121 c1_i32_122
  let v214 : BitVec 32 := Scalar.addi c0_i32_123 v213
  v214.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_123 : BitVec 32 := 0#32
  let c6_i32_121 : BitVec 32 := 6#32
  let c1_i32_122 : BitVec 32 := 1#32
  let v213 : BitVec 32 := Scalar.muli c6_i32_121 c1_i32_122
  let v214 : BitVec 32 := Scalar.addi c0_i32_123 v213
  v214.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_123 : BitVec 32 := 0#32
  let c7_i32_121 : BitVec 32 := 7#32
  let c1_i32_122 : BitVec 32 := 1#32
  let v213 : BitVec 32 := Scalar.muli c7_i32_121 c1_i32_122
  let v214 : BitVec 32 := Scalar.addi c0_i32_123 v213
  v214.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_31 : BitVec 32 := 0#32
  let v77 : BitVec 1 := Scalar.cmpi .ne v2 c0_i32_31
  let v78 : BitVec 32 := Scalar.extui v77
  let c0_i32_32 : BitVec 32 := 0#32
  let v79 : BitVec 1 := Scalar.cmpi .ne v78 c0_i32_32
  v79

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev9 : Nat :=
  let c0_i32_123 : BitVec 32 := 0#32
  let c0_i32_121 : BitVec 32 := 0#32
  let c1_i32_122 : BitVec 32 := 1#32
  let v213 : BitVec 32 := Scalar.muli c0_i32_121 c1_i32_122
  let v214 : BitVec 32 := Scalar.addi c0_i32_123 v213
  v214.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v80 : BitVec 1 := Scalar.cmpi .ne v2 c1_i32_33
  let v81 : BitVec 32 := Scalar.extui v80
  let c0_i32_34 : BitVec 32 := 0#32
  let v82 : BitVec 1 := Scalar.cmpi .ne v81 c0_i32_34
  v82

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev10 : Nat :=
  let c0_i32_123 : BitVec 32 := 0#32
  let c1_i32_121 : BitVec 32 := 1#32
  let c1_i32_122 : BitVec 32 := 1#32
  let v213 : BitVec 32 := Scalar.muli c1_i32_121 c1_i32_122
  let v214 : BitVec 32 := Scalar.addi c0_i32_123 v213
  v214.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_35 : BitVec 32 := 2#32
  let v83 : BitVec 1 := Scalar.cmpi .ne v2 c2_i32_35
  let v84 : BitVec 32 := Scalar.extui v83
  let c0_i32_36 : BitVec 32 := 0#32
  let v85 : BitVec 1 := Scalar.cmpi .ne v84 c0_i32_36
  v85

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev11 : Nat :=
  let c0_i32_123 : BitVec 32 := 0#32
  let c2_i32_121 : BitVec 32 := 2#32
  let c1_i32_122 : BitVec 32 := 1#32
  let v213 : BitVec 32 := Scalar.muli c2_i32_121 c1_i32_122
  let v214 : BitVec 32 := Scalar.addi c0_i32_123 v213
  v214.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_37 : BitVec 32 := 3#32
  let v86 : BitVec 1 := Scalar.cmpi .ne v2 c3_i32_37
  let v87 : BitVec 32 := Scalar.extui v86
  let c0_i32_38 : BitVec 32 := 0#32
  let v88 : BitVec 1 := Scalar.cmpi .ne v87 c0_i32_38
  v88

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev12 : Nat :=
  let c0_i32_123 : BitVec 32 := 0#32
  let c3_i32_121 : BitVec 32 := 3#32
  let c1_i32_122 : BitVec 32 := 1#32
  let v213 : BitVec 32 := Scalar.muli c3_i32_121 c1_i32_122
  let v214 : BitVec 32 := Scalar.addi c0_i32_123 v213
  v214.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_39 : BitVec 32 := 4#32
  let v89 : BitVec 1 := Scalar.cmpi .ne v2 c4_i32_39
  let v90 : BitVec 32 := Scalar.extui v89
  let c0_i32_40 : BitVec 32 := 0#32
  let v91 : BitVec 1 := Scalar.cmpi .ne v90 c0_i32_40
  v91

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev13 : Nat :=
  let c0_i32_123 : BitVec 32 := 0#32
  let c4_i32_121 : BitVec 32 := 4#32
  let c1_i32_122 : BitVec 32 := 1#32
  let v213 : BitVec 32 := Scalar.muli c4_i32_121 c1_i32_122
  let v214 : BitVec 32 := Scalar.addi c0_i32_123 v213
  v214.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_41 : BitVec 32 := 5#32
  let v92 : BitVec 1 := Scalar.cmpi .ne v2 c5_i32_41
  let v93 : BitVec 32 := Scalar.extui v92
  let c0_i32_42 : BitVec 32 := 0#32
  let v94 : BitVec 1 := Scalar.cmpi .ne v93 c0_i32_42
  v94

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev14 : Nat :=
  let c0_i32_123 : BitVec 32 := 0#32
  let c5_i32_121 : BitVec 32 := 5#32
  let c1_i32_122 : BitVec 32 := 1#32
  let v213 : BitVec 32 := Scalar.muli c5_i32_121 c1_i32_122
  let v214 : BitVec 32 := Scalar.addi c0_i32_123 v213
  v214.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_43 : BitVec 32 := 6#32
  let v95 : BitVec 1 := Scalar.cmpi .ne v2 c6_i32_43
  let v96 : BitVec 32 := Scalar.extui v95
  let c0_i32_44 : BitVec 32 := 0#32
  let v97 : BitVec 1 := Scalar.cmpi .ne v96 c0_i32_44
  v97

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev15 : Nat :=
  let c0_i32_123 : BitVec 32 := 0#32
  let c6_i32_121 : BitVec 32 := 6#32
  let c1_i32_122 : BitVec 32 := 1#32
  let v213 : BitVec 32 := Scalar.muli c6_i32_121 c1_i32_122
  let v214 : BitVec 32 := Scalar.addi c0_i32_123 v213
  v214.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_45 : BitVec 32 := 7#32
  let v98 : BitVec 1 := Scalar.cmpi .ne v2 c7_i32_45
  let v99 : BitVec 32 := Scalar.extui v98
  let c0_i32_46 : BitVec 32 := 0#32
  let v100 : BitVec 1 := Scalar.cmpi .ne v99 c0_i32_46
  v100

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev16 : Nat :=
  let c0_i32_123 : BitVec 32 := 0#32
  let c7_i32_121 : BitVec 32 := 7#32
  let c1_i32_122 : BitVec 32 := 1#32
  let v213 : BitVec 32 := Scalar.muli c7_i32_121 c1_i32_122
  let v214 : BitVec 32 := Scalar.addi c0_i32_123 v213
  v214.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v101 : BitVec 32 := Scalar.muli v2 c64_i32
  let v102 : Index := Scalar.indexCast v101
  let c0_47 : Index := 0#32
  ![v102.toNat, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_66 : BitVec 32 := 0#32
  let v131 : BitVec 1 := Scalar.cmpi .ne v2 c0_i32_66
  let v132 : BitVec 32 := Scalar.extui v131
  let c0_i32_67 : BitVec 32 := 0#32
  let v133 : BitVec 1 := Scalar.cmpi .ne v132 c0_i32_67
  v133

def k0_off18 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev17 : Nat :=
  let c0_i32_123 : BitVec 32 := 0#32
  let c0_i32_121 : BitVec 32 := 0#32
  let c1_i32_122 : BitVec 32 := 1#32
  let v213 : BitVec 32 := Scalar.muli c0_i32_121 c1_i32_122
  let v214 : BitVec 32 := Scalar.addi c0_i32_123 v213
  v214.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_68 : BitVec 32 := 1#32
  let v134 : BitVec 1 := Scalar.cmpi .ne v2 c1_i32_68
  let v135 : BitVec 32 := Scalar.extui v134
  let c0_i32_69 : BitVec 32 := 0#32
  let v136 : BitVec 1 := Scalar.cmpi .ne v135 c0_i32_69
  v136

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev18 : Nat :=
  let c0_i32_123 : BitVec 32 := 0#32
  let c1_i32_121 : BitVec 32 := 1#32
  let c1_i32_122 : BitVec 32 := 1#32
  let v213 : BitVec 32 := Scalar.muli c1_i32_121 c1_i32_122
  let v214 : BitVec 32 := Scalar.addi c0_i32_123 v213
  v214.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_70 : BitVec 32 := 2#32
  let v137 : BitVec 1 := Scalar.cmpi .ne v2 c2_i32_70
  let v138 : BitVec 32 := Scalar.extui v137
  let c0_i32_71 : BitVec 32 := 0#32
  let v139 : BitVec 1 := Scalar.cmpi .ne v138 c0_i32_71
  v139

def k0_off22 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev19 : Nat :=
  let c0_i32_123 : BitVec 32 := 0#32
  let c2_i32_121 : BitVec 32 := 2#32
  let c1_i32_122 : BitVec 32 := 1#32
  let v213 : BitVec 32 := Scalar.muli c2_i32_121 c1_i32_122
  let v214 : BitVec 32 := Scalar.addi c0_i32_123 v213
  v214.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_72 : BitVec 32 := 3#32
  let v140 : BitVec 1 := Scalar.cmpi .ne v2 c3_i32_72
  let v141 : BitVec 32 := Scalar.extui v140
  let c0_i32_73 : BitVec 32 := 0#32
  let v142 : BitVec 1 := Scalar.cmpi .ne v141 c0_i32_73
  v142

def k0_off24 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev20 : Nat :=
  let c0_i32_123 : BitVec 32 := 0#32
  let c3_i32_121 : BitVec 32 := 3#32
  let c1_i32_122 : BitVec 32 := 1#32
  let v213 : BitVec 32 := Scalar.muli c3_i32_121 c1_i32_122
  let v214 : BitVec 32 := Scalar.addi c0_i32_123 v213
  v214.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_74 : BitVec 32 := 4#32
  let v143 : BitVec 1 := Scalar.cmpi .ne v2 c4_i32_74
  let v144 : BitVec 32 := Scalar.extui v143
  let c0_i32_75 : BitVec 32 := 0#32
  let v145 : BitVec 1 := Scalar.cmpi .ne v144 c0_i32_75
  v145

def k0_off26 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev21 : Nat :=
  let c0_i32_123 : BitVec 32 := 0#32
  let c4_i32_121 : BitVec 32 := 4#32
  let c1_i32_122 : BitVec 32 := 1#32
  let v213 : BitVec 32 := Scalar.muli c4_i32_121 c1_i32_122
  let v214 : BitVec 32 := Scalar.addi c0_i32_123 v213
  v214.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_76 : BitVec 32 := 5#32
  let v146 : BitVec 1 := Scalar.cmpi .ne v2 c5_i32_76
  let v147 : BitVec 32 := Scalar.extui v146
  let c0_i32_77 : BitVec 32 := 0#32
  let v148 : BitVec 1 := Scalar.cmpi .ne v147 c0_i32_77
  v148

def k0_off28 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev22 : Nat :=
  let c0_i32_123 : BitVec 32 := 0#32
  let c5_i32_121 : BitVec 32 := 5#32
  let c1_i32_122 : BitVec 32 := 1#32
  let v213 : BitVec 32 := Scalar.muli c5_i32_121 c1_i32_122
  let v214 : BitVec 32 := Scalar.addi c0_i32_123 v213
  v214.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_78 : BitVec 32 := 6#32
  let v149 : BitVec 1 := Scalar.cmpi .ne v2 c6_i32_78
  let v150 : BitVec 32 := Scalar.extui v149
  let c0_i32_79 : BitVec 32 := 0#32
  let v151 : BitVec 1 := Scalar.cmpi .ne v150 c0_i32_79
  v151

def k0_off30 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev23 : Nat :=
  let c0_i32_123 : BitVec 32 := 0#32
  let c6_i32_121 : BitVec 32 := 6#32
  let c1_i32_122 : BitVec 32 := 1#32
  let v213 : BitVec 32 := Scalar.muli c6_i32_121 c1_i32_122
  let v214 : BitVec 32 := Scalar.addi c0_i32_123 v213
  v214.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_80 : BitVec 32 := 7#32
  let v152 : BitVec 1 := Scalar.cmpi .ne v2 c7_i32_80
  let v153 : BitVec 32 := Scalar.extui v152
  let c0_i32_81 : BitVec 32 := 0#32
  let v154 : BitVec 1 := Scalar.cmpi .ne v153 c0_i32_81
  v154

def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_dev24 : Nat :=
  let c0_i32_123 : BitVec 32 := 0#32
  let c7_i32_121 : BitVec 32 := 7#32
  let c1_i32_122 : BitVec 32 := 1#32
  let v213 : BitVec 32 := Scalar.muli c7_i32_121 c1_i32_122
  let v214 : BitVec 32 := Scalar.addi c0_i32_123 v213
  v214.toNat
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_84 : BitVec 32 := 64#32
  let v157 : BitVec 32 := Scalar.muli v2 c64_i32_84
  let v158 : Index := Scalar.indexCast v157
  let c0_85 : Index := 0#32
  ![v158.toNat, 0]
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_104 : BitVec 32 := 0#32
  let v189 : BitVec 1 := Scalar.cmpi .ne v2 c0_i32_104
  let v190 : BitVec 32 := Scalar.extui v189
  let c0_i32_105 : BitVec 32 := 0#32
  let v191 : BitVec 1 := Scalar.cmpi .ne v190 c0_i32_105
  v191

def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_125 : BitVec 32 := 0#32
  let c0_i32_126 : BitVec 32 := 0#32
  ![v2.toNat, 0, 0]
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_106 : BitVec 32 := 1#32
  let v192 : BitVec 1 := Scalar.cmpi .ne v2 c1_i32_106
  let v193 : BitVec 32 := Scalar.extui v192
  let c0_i32_107 : BitVec 32 := 0#32
  let v194 : BitVec 1 := Scalar.cmpi .ne v193 c0_i32_107
  v194

def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_125 : BitVec 32 := 0#32
  let c0_i32_126 : BitVec 32 := 0#32
  ![v2.toNat, 0, 0]
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_108 : BitVec 32 := 2#32
  let v195 : BitVec 1 := Scalar.cmpi .ne v2 c2_i32_108
  let v196 : BitVec 32 := Scalar.extui v195
  let c0_i32_109 : BitVec 32 := 0#32
  let v197 : BitVec 1 := Scalar.cmpi .ne v196 c0_i32_109
  v197

def k0_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v198 : BitVec 1 := Scalar.cmpi .ne v2 c3_i32_110
  let v199 : BitVec 32 := Scalar.extui v198
  let c0_i32_111 : BitVec 32 := 0#32
  let v200 : BitVec 1 := Scalar.cmpi .ne v199 c0_i32_111
  v200

def k0_off38 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_112 : BitVec 32 := 4#32
  let v201 : BitVec 1 := Scalar.cmpi .ne v2 c4_i32_112
  let v202 : BitVec 32 := Scalar.extui v201
  let c0_i32_113 : BitVec 32 := 0#32
  let v203 : BitVec 1 := Scalar.cmpi .ne v202 c0_i32_113
  v203

def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_114 : BitVec 32 := 5#32
  let v204 : BitVec 1 := Scalar.cmpi .ne v2 c5_i32_114
  let v205 : BitVec 32 := Scalar.extui v204
  let c0_i32_115 : BitVec 32 := 0#32
  let v206 : BitVec 1 := Scalar.cmpi .ne v205 c0_i32_115
  v206

def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_116 : BitVec 32 := 6#32
  let v207 : BitVec 1 := Scalar.cmpi .ne v2 c6_i32_116
  let v208 : BitVec 32 := Scalar.extui v207
  let c0_i32_117 : BitVec 32 := 0#32
  let v209 : BitVec 1 := Scalar.cmpi .ne v208 c0_i32_117
  v209

def k0_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_118 : BitVec 32 := 7#32
  let v210 : BitVec 1 := Scalar.cmpi .ne v2 c7_i32_118
  let v211 : BitVec 32 := Scalar.extui v210
  let c0_i32_119 : BitVec 32 := 0#32
  let v212 : BitVec 1 := Scalar.cmpi .ne v211 c0_i32_119
  v212

def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  let c0_i32_125 : BitVec 32 := 0#32
  ![v2.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S_ : Shape := ⟨0, ![]⟩
abbrev S512x512 : Shape := ⟨2, ![512, 512]⟩
abbrev S1x256x512 : Shape := ⟨3, ![1, 256, 512]⟩
abbrev S256x512 : Shape := ⟨2, ![256, 512]⟩
abbrev S512 : Shape := ⟨1, ![512]⟩

abbrev nBuf : Space → Nat
  | .hbm => 222
  | .vmem => 0
  | .smem => 0
  | _ => 0

abbrev hbmTy0_0 (i : Nat) : BufTy := match i % 128 with
  | 0 => ⟨S512x256, .f32⟩
  | 1 => ⟨S256x16, .f32⟩
  | 2 => ⟨S512x1, .i32⟩
  | 3 => ⟨S16x256x512, .f32⟩
  | 4 => ⟨S_, .f32⟩
  | 5 => ⟨S512x512, .f32⟩
  | 6 => ⟨S_, .i32⟩
  | 7 => ⟨S512x1, .i32⟩
  | 8 => ⟨S512x1, .i1⟩
  | 9 => ⟨S1x256x512, .f32⟩
  | 10 => ⟨S256x512, .f32⟩
  | 11 => ⟨S512x512, .f32⟩
  | 12 => ⟨S_, .f32⟩
  | 13 => ⟨S_, .f32⟩
  | 14 => ⟨S512x512, .i1⟩
  | 15 => ⟨S512x512, .f32⟩
  | 16 => ⟨S512x512, .f32⟩
  | 17 => ⟨S512x512, .f32⟩
  | 18 => ⟨S_, .i32⟩
  | 19 => ⟨S512x1, .i32⟩
  | 20 => ⟨S512x1, .i1⟩
  | 21 => ⟨S1x256x512, .f32⟩
  | 22 => ⟨S256x512, .f32⟩
  | 23 => ⟨S512x512, .f32⟩
  | 24 => ⟨S_, .f32⟩
  | 25 => ⟨S_, .f32⟩
  | 26 => ⟨S512x512, .i1⟩
  | 27 => ⟨S512x512, .f32⟩
  | 28 => ⟨S512x512, .f32⟩
  | 29 => ⟨S512x512, .f32⟩
  | 30 => ⟨S_, .i32⟩
  | 31 => ⟨S512x1, .i32⟩
  | 32 => ⟨S512x1, .i1⟩
  | 33 => ⟨S1x256x512, .f32⟩
  | 34 => ⟨S256x512, .f32⟩
  | 35 => ⟨S512x512, .f32⟩
  | 36 => ⟨S_, .f32⟩
  | 37 => ⟨S_, .f32⟩
  | 38 => ⟨S512x512, .i1⟩
  | 39 => ⟨S512x512, .f32⟩
  | 40 => ⟨S512x512, .f32⟩
  | 41 => ⟨S512x512, .f32⟩
  | 42 => ⟨S_, .i32⟩
  | 43 => ⟨S512x1, .i32⟩
  | 44 => ⟨S512x1, .i1⟩
  | 45 => ⟨S1x256x512, .f32⟩
  | 46 => ⟨S256x512, .f32⟩
  | 47 => ⟨S512x512, .f32⟩
  | 48 => ⟨S_, .f32⟩
  | 49 => ⟨S_, .f32⟩
  | 50 => ⟨S512x512, .i1⟩
  | 51 => ⟨S512x512, .f32⟩
  | 52 => ⟨S512x512, .f32⟩
  | 53 => ⟨S512x512, .f32⟩
  | 54 => ⟨S_, .i32⟩
  | 55 => ⟨S512x1, .i32⟩
  | 56 => ⟨S512x1, .i1⟩
  | 57 => ⟨S1x256x512, .f32⟩
  | 58 => ⟨S256x512, .f32⟩
  | 59 => ⟨S512x512, .f32⟩
  | 60 => ⟨S_, .f32⟩
  | 61 => ⟨S_, .f32⟩
  | 62 => ⟨S512x512, .i1⟩
  | 63 => ⟨S512x512, .f32⟩
  | 64 => ⟨S512x512, .f32⟩
  | 65 => ⟨S512x512, .f32⟩
  | 66 => ⟨S_, .i32⟩
  | 67 => ⟨S512x1, .i32⟩
  | 68 => ⟨S512x1, .i1⟩
  | 69 => ⟨S1x256x512, .f32⟩
  | 70 => ⟨S256x512, .f32⟩
  | 71 => ⟨S512x512, .f32⟩
  | 72 => ⟨S_, .f32⟩
  | 73 => ⟨S_, .f32⟩
  | 74 => ⟨S512x512, .i1⟩
  | 75 => ⟨S512x512, .f32⟩
  | 76 => ⟨S512x512, .f32⟩
  | 77 => ⟨S512x512, .f32⟩
  | 78 => ⟨S_, .i32⟩
  | 79 => ⟨S512x1, .i32⟩
  | 80 => ⟨S512x1, .i1⟩
  | 81 => ⟨S1x256x512, .f32⟩
  | 82 => ⟨S256x512, .f32⟩
  | 83 => ⟨S512x512, .f32⟩
  | 84 => ⟨S_, .f32⟩
  | 85 => ⟨S_, .f32⟩
  | 86 => ⟨S512x512, .i1⟩
  | 87 => ⟨S512x512, .f32⟩
  | 88 => ⟨S512x512, .f32⟩
  | 89 => ⟨S512x512, .f32⟩
  | 90 => ⟨S_, .i32⟩
  | 91 => ⟨S512x1, .i32⟩
  | 92 => ⟨S512x1, .i1⟩
  | 93 => ⟨S1x256x512, .f32⟩
  | 94 => ⟨S256x512, .f32⟩
  | 95 => ⟨S512x512, .f32⟩
  | 96 => ⟨S_, .f32⟩
  | 97 => ⟨S_, .f32⟩
  | 98 => ⟨S512x512, .i1⟩
  | 99 => ⟨S512x512, .f32⟩
  | 100 => ⟨S512x512, .f32⟩
  | 101 => ⟨S512x512, .f32⟩
  | 102 => ⟨S_, .i32⟩
  | 103 => ⟨S512x1, .i32⟩
  | 104 => ⟨S512x1, .i1⟩
  | 105 => ⟨S1x256x512, .f32⟩
  | 106 => ⟨S256x512, .f32⟩
  | 107 => ⟨S512x512, .f32⟩
  | 108 => ⟨S_, .f32⟩
  | 109 => ⟨S_, .f32⟩
  | 110 => ⟨S512x512, .i1⟩
  | 111 => ⟨S512x512, .f32⟩
  | 112 => ⟨S512x512, .f32⟩
  | 113 => ⟨S512x512, .f32⟩
  | 114 => ⟨S_, .i32⟩
  | 115 => ⟨S512x1, .i32⟩
  | 116 => ⟨S512x1, .i1⟩
  | 117 => ⟨S1x256x512, .f32⟩
  | 118 => ⟨S256x512, .f32⟩
  | 119 => ⟨S512x512, .f32⟩
  | 120 => ⟨S_, .f32⟩
  | 121 => ⟨S_, .f32⟩
  | 122 => ⟨S512x512, .i1⟩
  | 123 => ⟨S512x512, .f32⟩
  | 124 => ⟨S512x512, .f32⟩
  | 125 => ⟨S512x512, .f32⟩
  | 126 => ⟨S_, .i32⟩
  | 127 => ⟨S512x1, .i32⟩
  | _ => ⟨S512x256, .f32⟩

abbrev hbmTy0_1 (i : Nat) : BufTy := match i % 128 with
  | 0 => ⟨S512x1, .i1⟩
  | 1 => ⟨S1x256x512, .f32⟩
  | 2 => ⟨S256x512, .f32⟩
  | 3 => ⟨S512x512, .f32⟩
  | 4 => ⟨S_, .f32⟩
  | 5 => ⟨S_, .f32⟩
  | 6 => ⟨S512x512, .i1⟩
  | 7 => ⟨S512x512, .f32⟩
  | 8 => ⟨S512x512, .f32⟩
  | 9 => ⟨S512x512, .f32⟩
  | 10 => ⟨S_, .i32⟩
  | 11 => ⟨S512x1, .i32⟩
  | 12 => ⟨S512x1, .i1⟩
  | 13 => ⟨S1x256x512, .f32⟩
  | 14 => ⟨S256x512, .f32⟩
  | 15 => ⟨S512x512, .f32⟩
  | 16 => ⟨S_, .f32⟩
  | 17 => ⟨S_, .f32⟩
  | 18 => ⟨S512x512, .i1⟩
  | 19 => ⟨S512x512, .f32⟩
  | 20 => ⟨S512x512, .f32⟩
  | 21 => ⟨S512x512, .f32⟩
  | 22 => ⟨S_, .i32⟩
  | 23 => ⟨S512x1, .i32⟩
  | 24 => ⟨S512x1, .i1⟩
  | 25 => ⟨S1x256x512, .f32⟩
  | 26 => ⟨S256x512, .f32⟩
  | 27 => ⟨S512x512, .f32⟩
  | 28 => ⟨S_, .f32⟩
  | 29 => ⟨S_, .f32⟩
  | 30 => ⟨S512x512, .i1⟩
  | 31 => ⟨S512x512, .f32⟩
  | 32 => ⟨S512x512, .f32⟩
  | 33 => ⟨S512x512, .f32⟩
  | 34 => ⟨S_, .i32⟩
  | 35 => ⟨S512x1, .i32⟩
  | 36 => ⟨S512x1, .i1⟩
  | 37 => ⟨S1x256x512, .f32⟩
  | 38 => ⟨S256x512, .f32⟩
  | 39 => ⟨S512x512, .f32⟩
  | 40 => ⟨S_, .f32⟩
  | 41 => ⟨S_, .f32⟩
  | 42 => ⟨S512x512, .i1⟩
  | 43 => ⟨S512x512, .f32⟩
  | 44 => ⟨S512x512, .f32⟩
  | 45 => ⟨S512x512, .f32⟩
  | 46 => ⟨S_, .i32⟩
  | 47 => ⟨S512x1, .i32⟩
  | 48 => ⟨S512x1, .i1⟩
  | 49 => ⟨S1x256x512, .f32⟩
  | 50 => ⟨S256x512, .f32⟩
  | 51 => ⟨S512x512, .f32⟩
  | 52 => ⟨S_, .f32⟩
  | 53 => ⟨S_, .f32⟩
  | 54 => ⟨S512x512, .i1⟩
  | 55 => ⟨S512x512, .f32⟩
  | 56 => ⟨S512x512, .f32⟩
  | 57 => ⟨S512x512, .f32⟩
  | 58 => ⟨S_, .i32⟩
  | 59 => ⟨S512x1, .i32⟩
  | 60 => ⟨S512x1, .i1⟩
  | 61 => ⟨S1x256x512, .f32⟩
  | 62 => ⟨S256x512, .f32⟩
  | 63 => ⟨S512x512, .f32⟩
  | 64 => ⟨S_, .f32⟩
  | 65 => ⟨S_, .f32⟩
  | 66 => ⟨S512x512, .i1⟩
  | 67 => ⟨S512x512, .f32⟩
  | 68 => ⟨S512x512, .f32⟩
  | 69 => ⟨S512x512, .f32⟩
  | 70 => ⟨S512x256, .f32⟩
  | 71 => ⟨S_, .f32⟩
  | 72 => ⟨S512, .f32⟩
  | 73 => ⟨S512x1, .f32⟩
  | 74 => ⟨S512x1, .f32⟩
  | 75 => ⟨S_, .f32⟩
  | 76 => ⟨S512x1, .f32⟩
  | 77 => ⟨S512x1, .f32⟩
  | 78 => ⟨S_, .f32⟩
  | 79 => ⟨S512x1, .f32⟩
  | 80 => ⟨S512x1, .f32⟩
  | 81 => ⟨S512x512, .f32⟩
  | 82 => ⟨S512x512, .f32⟩
  | 83 => ⟨S512x512, .f32⟩
  | 84 => ⟨S_, .f32⟩
  | 85 => ⟨S_, .f32⟩
  | 86 => ⟨S_, .f32⟩
  | 87 => ⟨S512x512, .f32⟩
  | 88 => ⟨S512x512, .f32⟩
  | 89 => ⟨S_, .f32⟩
  | 90 => ⟨S512x512, .f32⟩
  | 91 => ⟨S512x512, .f32⟩
  | 92 => ⟨S512x512, .f32⟩
  | 93 => ⟨S512x512, .f32⟩
  | _ => ⟨S512x256, .f32⟩

abbrev hbmTy (i : Nat) : BufTy := match i / 128 with
  | 0 => hbmTy0_0 i
  | 1 => hbmTy0_1 i
  | _ => ⟨S512x256, .f32⟩

abbrev bufTy : (tb : Table) → Fin (tcTables nBuf tb) → BufTy
  | .hbm, ⟨i, _⟩ => hbmTy i
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v34 : Ref sig .tc := ⟨.hbm, 64, rfl⟩
abbrev main_v35 : Ref sig .tc := ⟨.hbm, 65, rfl⟩
abbrev main_c_9 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_10 : Ref sig .tc := ⟨.hbm, 72, rfl⟩
abbrev main_call5_v0 : Ref sig .tc := ⟨.hbm, 73, rfl⟩
abbrev main_call5_v1 : Ref sig .tc := ⟨.hbm, 74, rfl⟩
abbrev main_call5_v2 : Ref sig .tc := ⟨.hbm, 75, rfl⟩
abbrev main_v41 : Ref sig .tc := ⟨.hbm, 76, rfl⟩
abbrev main_v42 : Ref sig .tc := ⟨.hbm, 77, rfl⟩
abbrev main_c_11 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_12 : Ref sig .tc := ⟨.hbm, 84, rfl⟩
abbrev main_call6_v0 : Ref sig .tc := ⟨.hbm, 85, rfl⟩
abbrev main_call6_v1 : Ref sig .tc := ⟨.hbm, 86, rfl⟩
abbrev main_call6_v2 : Ref sig .tc := ⟨.hbm, 87, rfl⟩
abbrev main_v48 : Ref sig .tc := ⟨.hbm, 88, rfl⟩
abbrev main_v49 : Ref sig .tc := ⟨.hbm, 89, rfl⟩
abbrev main_c_13 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_14 : Ref sig .tc := ⟨.hbm, 96, rfl⟩
abbrev main_call7_v0 : Ref sig .tc := ⟨.hbm, 97, rfl⟩
abbrev main_call7_v1 : Ref sig .tc := ⟨.hbm, 98, rfl⟩
abbrev main_call7_v2 : Ref sig .tc := ⟨.hbm, 99, rfl⟩
abbrev main_v55 : Ref sig .tc := ⟨.hbm, 100, rfl⟩
abbrev main_v56 : Ref sig .tc := ⟨.hbm, 101, rfl⟩
abbrev main_c_15 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_16 : Ref sig .tc := ⟨.hbm, 108, rfl⟩
abbrev main_call8_v0 : Ref sig .tc := ⟨.hbm, 109, rfl⟩
abbrev main_call8_v1 : Ref sig .tc := ⟨.hbm, 110, rfl⟩
abbrev main_call8_v2 : Ref sig .tc := ⟨.hbm, 111, rfl⟩
abbrev main_v62 : Ref sig .tc := ⟨.hbm, 112, rfl⟩
abbrev main_v63 : Ref sig .tc := ⟨.hbm, 113, rfl⟩
abbrev main_c_17 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_18 : Ref sig .tc := ⟨.hbm, 120, rfl⟩
abbrev main_call9_v0 : Ref sig .tc := ⟨.hbm, 121, rfl⟩
abbrev main_call9_v1 : Ref sig .tc := ⟨.hbm, 122, rfl⟩
abbrev main_call9_v2 : Ref sig .tc := ⟨.hbm, 123, rfl⟩
abbrev main_v69 : Ref sig .tc := ⟨.hbm, 124, rfl⟩
abbrev main_v70 : Ref sig .tc := ⟨.hbm, 125, rfl⟩
abbrev main_c_19 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_20 : Ref sig .tc := ⟨.hbm, 132, rfl⟩
abbrev main_call10_v0 : Ref sig .tc := ⟨.hbm, 133, rfl⟩
abbrev main_call10_v1 : Ref sig .tc := ⟨.hbm, 134, rfl⟩
abbrev main_call10_v2 : Ref sig .tc := ⟨.hbm, 135, rfl⟩
abbrev main_v76 : Ref sig .tc := ⟨.hbm, 136, rfl⟩
abbrev main_v77 : Ref sig .tc := ⟨.hbm, 137, rfl⟩
abbrev main_c_21 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_cst_22 : Ref sig .tc := ⟨.hbm, 144, rfl⟩
abbrev main_call11_v0 : Ref sig .tc := ⟨.hbm, 145, rfl⟩
abbrev main_call11_v1 : Ref sig .tc := ⟨.hbm, 146, rfl⟩
abbrev main_call11_v2 : Ref sig .tc := ⟨.hbm, 147, rfl⟩
abbrev main_v83 : Ref sig .tc := ⟨.hbm, 148, rfl⟩
abbrev main_v84 : Ref sig .tc := ⟨.hbm, 149, rfl⟩
abbrev main_c_23 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_cst_24 : Ref sig .tc := ⟨.hbm, 156, rfl⟩
abbrev main_call12_v0 : Ref sig .tc := ⟨.hbm, 157, rfl⟩
abbrev main_call12_v1 : Ref sig .tc := ⟨.hbm, 158, rfl⟩
abbrev main_call12_v2 : Ref sig .tc := ⟨.hbm, 159, rfl⟩
abbrev main_v90 : Ref sig .tc := ⟨.hbm, 160, rfl⟩
abbrev main_v91 : Ref sig .tc := ⟨.hbm, 161, rfl⟩
abbrev main_c_25 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_cst_26 : Ref sig .tc := ⟨.hbm, 168, rfl⟩
abbrev main_call13_v0 : Ref sig .tc := ⟨.hbm, 169, rfl⟩
abbrev main_call13_v1 : Ref sig .tc := ⟨.hbm, 170, rfl⟩
abbrev main_call13_v2 : Ref sig .tc := ⟨.hbm, 171, rfl⟩
abbrev main_v97 : Ref sig .tc := ⟨.hbm, 172, rfl⟩
abbrev main_v98 : Ref sig .tc := ⟨.hbm, 173, rfl⟩
abbrev main_c_27 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_cst_28 : Ref sig .tc := ⟨.hbm, 180, rfl⟩
abbrev main_call14_v0 : Ref sig .tc := ⟨.hbm, 181, rfl⟩
abbrev main_call14_v1 : Ref sig .tc := ⟨.hbm, 182, rfl⟩
abbrev main_call14_v2 : Ref sig .tc := ⟨.hbm, 183, rfl⟩
abbrev main_v104 : Ref sig .tc := ⟨.hbm, 184, rfl⟩
abbrev main_v105 : Ref sig .tc := ⟨.hbm, 185, rfl⟩
abbrev main_c_29 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_cst_30 : Ref sig .tc := ⟨.hbm, 192, rfl⟩
abbrev main_call15_v0 : Ref sig .tc := ⟨.hbm, 193, rfl⟩
abbrev main_call15_v1 : Ref sig .tc := ⟨.hbm, 194, rfl⟩
abbrev main_call15_v2 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_cst_31 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_cst_32 : Ref sig .tc := ⟨.hbm, 203, rfl⟩
abbrev main_v117 : Ref sig .tc := ⟨.hbm, 204, rfl⟩
abbrev main_v118 : Ref sig .tc := ⟨.hbm, 205, rfl⟩
abbrev main_cst_33 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_cst_34 : Ref sig .tc := ⟨.hbm, 212, rfl⟩
abbrev main_cst_35 : Ref sig .tc := ⟨.hbm, 213, rfl⟩
abbrev main_call17_v0 : Ref sig .tc := ⟨.hbm, 214, rfl⟩
abbrev main_call17_v1 : Ref sig .tc := ⟨.hbm, 215, rfl⟩
abbrev main_call17_v2 : Ref sig .tc := ⟨.hbm, 216, rfl⟩
abbrev main_call17_v3 : Ref sig .tc := ⟨.hbm, 217, rfl⟩
abbrev main_call17_v4 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩

abbrev nD : Nat := 1
abbrev τ : Topo := Topo.v7x

variable {F : FTy → Type} [FloatOps F]
-- ==== Proof.Mesh.lean ====
/-
# The mesh: memrefs, semaphores, contents and the schedule of the exchange

Eight devices. A device quantises its own experts' contribution to all 512 rows (`partq`), sends the 64 rows
of each peer to that peer (the reduce-scatter), adds what it receives to its own 64 rows (`redAt`), sends the sum to
every peer (the all-gather), and dequantises the eight blocks it then holds (`oblk`).

The protocol has one round. A device's barrier cell has one duty per peer; with it the peer hands over the slot of
its two landing buffers that this device will write. Every send and receive semaphore that belongs to a peer has
one duty of one block's credit; the semaphore a device keeps for itself has none.
-/
module
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Tactic

@[expose] public section

set_option backward.proofsInPublic true

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

/-! ## The resource algebra -/

/-- The ghost state of the exchange: rounds whose duties are named by devices. -/
abbrev UB : Type := URounds (GSem nD τ sig) (Dev nD)
/-- The pipeline's ghost state beside the exchange's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The peers of a device, those from number `k` on and those before it -/

def up (c : Dev nD) (k : ℕ) : Finset (Dev nD) := Finset.univ.filter fun p => k ≤ p.val ∧ p ≠ c
def dn (c : Dev nD) (k : ℕ) : Finset (Dev nD) := Finset.univ.filter fun p => p.val < k ∧ p ≠ c

theorem mem_up {c p : Dev nD} {k : ℕ} : p ∈ up c k ↔ k ≤ p.val ∧ p ≠ c := by simp [up]
theorem mem_dn {c p : Dev nD} {k : ℕ} : p ∈ dn c k ↔ p.val < k ∧ p ≠ c := by simp [dn]

theorem up_of_ne {c p : Dev nD} (h : p ≠ c) : up c p.val = insert p (up c (p.val + 1)) := by
  ext q
  rw [Finset.mem_insert, mem_up, mem_up]
  constructor
  · rintro ⟨h1, h2⟩
    rcases Nat.lt_or_ge p.val q.val with h3 | h3
    · exact .inr ⟨h3, h2⟩
    · exact .inl (Fin.ext (Nat.le_antisymm h3 h1))
  · rintro (rfl | ⟨h1, h2⟩)
    · exact ⟨Nat.le_refl _, h⟩
    · exact ⟨Nat.le_of_succ_le h1, h2⟩

theorem dn_of_ne {c p : Dev nD} (h : p ≠ c) : dn c (p.val + 1) = insert p (dn c p.val) := by
  ext q
  rw [Finset.mem_insert, mem_dn, mem_dn]
  constructor
  · rintro ⟨h1, h2⟩
    rcases Nat.lt_or_ge q.val p.val with h3 | h3
    · exact .inr ⟨h3, h2⟩
    · exact .inl (Fin.ext (Nat.le_antisymm (Nat.le_of_lt_succ h1) h3))
  · rintro (rfl | ⟨h1, h2⟩)
    · exact ⟨Nat.lt_succ_self _, h⟩
    · exact ⟨Nat.lt_succ_of_lt h1, h2⟩

theorem up_self (c : Dev nD) : up c c.val = up c (c.val + 1) := by
  ext q; rw [mem_up, mem_up]
  exact ⟨fun ⟨h1, h2⟩ => ⟨Nat.lt_of_le_of_ne h1 fun h => h2 (Fin.ext h.symm), h2⟩, fun ⟨h1, h2⟩ => ⟨Nat.le_of_succ_le h1, h2⟩⟩

theorem dn_self (c : Dev nD) : dn c (c.val + 1) = dn c c.val := by
  ext q; rw [mem_dn, mem_dn]
  exact ⟨fun ⟨h1, h2⟩ => ⟨Nat.lt_of_le_of_ne (Nat.le_of_lt_succ h1) fun h => h2 (Fin.ext h), h2⟩, fun ⟨h1, h2⟩ => ⟨Nat.lt_succ_of_lt h1, h2⟩⟩

theorem not_mem_up (c p : Dev nD) : p ∉ up c (p.val + 1) := fun h => Nat.lt_irrefl _ (mem_up.mp h).1
theorem not_mem_dn (c p : Dev nD) : p ∉ dn c p.val := fun h => Nat.lt_irrefl _ (mem_dn.mp h).1
theorem up_zero (c : Dev nD) : up c 0 = Finset.univ.erase c := by
  ext q; rw [mem_up, Finset.mem_erase]; exact ⟨fun h => ⟨h.2, Finset.mem_univ _⟩, fun h => ⟨Nat.zero_le _, h.1⟩⟩
theorem up_last (c : Dev nD) : up c 8 = ∅ := Finset.eq_empty_of_forall_notMem fun q h => absurd (mem_up.mp h).1 (Nat.not_le.mpr q.isLt)
theorem dn_zero (c : Dev nD) : dn c 0 = ∅ := Finset.eq_empty_of_forall_notMem fun q h => Nat.not_lt_zero _ (mem_dn.mp h).1
theorem dn_last (c : Dev nD) : dn c 8 = Finset.univ.erase c := by
  ext q; rw [mem_dn, Finset.mem_erase]; exact ⟨fun h => ⟨h.2, Finset.mem_univ _⟩, fun h => ⟨q.isLt, h.1⟩⟩

/-! ## Memrefs -/

abbrev xM : Memref sig .tc .vmem S512x256 .f32 := Memref.whole cc0_stg0_0
abbrev iM : Memref sig .tc .vmem S512x1 .i32 := Memref.whole cc0_stg1_0
abbrev wM : Memref sig .tc .vmem S2x256x512 .f32 := Memref.whole cc0_stg2_0
abbrev oM : Memref sig .tc .vmem S512x512 .f32 := Memref.whole cc0_stg3_0
/-- the quantised contribution of the device's own experts, -/
abbrev pM : Memref sig .tc .vmem S512x512 .i8 := Memref.whole cc0_scratch0
/-- the scale of each row, -/
abbrev scM : Memref sig .tc .vmem S512x1 .f32 := Memref.whole cc0_scratch1
/-- the landing slots of the reduce-scatter, one per peer, -/
abbrev rsM : Memref sig .tc .vmem S8x64x512 .i8 := Memref.whole cc0_scratch2
/-- the sum of the device's own 64 rows, -/
abbrev rdM : Memref sig .tc .vmem S64x512 .i8 := Memref.whole cc0_scratch3
/-- the landing slots of the all-gather. -/
abbrev agM : Memref sig .tc .vmem S8x64x512 .i8 := Memref.whole cc0_scratch4

theorem row_inb (p : Dev nD) : ∀ a : Fin 2, (![64 * p.val, 0] : Fin 2 → ℕ) a + S64x512.size a ≤ S512x512.size a := by
  revert p; decide
theorem slot_inb (p : Dev nD) : ∀ a : Fin 3, (![p.val, 0, 0] : Fin 3 → ℕ) a + S1x64x512.size a ≤ S8x64x512.size a := by
  revert p; decide
theorem srow_inb (p : Dev nD) : ∀ a : Fin 2, (![64 * p.val, 0] : Fin 2 → ℕ) a + S64x1.size a ≤ S512x1.size a := by
  revert p; decide

/-- The 64 rows of device `p`, of a 512×512 buffer, -/
abbrev rowR (p : Dev nD) : Rect S512x512 := Rect.unit (s := S512x512) ![64 * p.val, 0] S64x512.size (row_inb p)
/-- of the column of scales; -/
abbrev srowR (p : Dev nD) : Rect S512x1 := Rect.unit (s := S512x1) ![64 * p.val, 0] S64x1.size (srow_inb p)
/-- the slot of device `p` in a landing buffer. -/
abbrev slotR (p : Dev nD) : Rect S8x64x512 := Rect.unit (s := S8x64x512) ![p.val, 0, 0] S1x64x512.size (slot_inb p)

abbrev rowM (p : Dev nD) : Memref sig .tc .vmem S64x512 .i8 := pM.slice (rowR p) (fun _ => rfl)
abbrev slotM (M : Memref sig .tc .vmem S8x64x512 .i8) (p : Dev nD) : Memref sig .tc .vmem S64x512 .i8 :=
  (M.slice (slotR p) (fun _ => rfl)).squeeze S64x512 squeezes_S1x64x512_S64x512

/-! ## Semaphores and cells -/

theorem dsem_lt (i : Fin 32) : 4 + i.val < sig.nDmaSem := by have := i.isLt; show 4 + i.val < 36; omega
/-- The kernel's thirty-two DMA semaphores: four arrays of eight. -/
def dsem (i : Fin 32) : DmaSem sig := ⟨4 + i.val, dsem_lt i⟩
/-- the index of semaphore `p` of array `b` (0: reduce-scatter send, 1: its receive, 2: all-gather send, 3: its receive). -/
def six (b : Fin 4) (p : Dev nD) : Fin 32 := ⟨8 * b.val + p.val, by have := b.isLt; have : p.val < 8 := p.isLt; omega⟩

/-- The runtime's barrier semaphore, as the program names it. -/
abbrev barS : Sem sig := (SemArray.scalar (sig.barrier 0 rfl) : Sems sig S_).sem

abbrev barCell (c : Dev nD) : GSem nD τ sig := ((c : Thread nD τ), .reg barS)
abbrev dcell (b : Fin 4) (c p : Dev nD) : GSem nD τ sig := ((c : Thread nD τ), .dma (dsem (six b p)))

/-- The kernel's own semaphores as the launch theorem indexes them; -/
abbrev osem : Fin 32 → SemLoc sig := fun i => .dma (dsem i)
/-- all the exchange's semaphores: the barrier first. -/
abbrev csem : Option (Fin 32) → SemLoc sig := fun | none => .reg barS | some i => .dma (dsem i)
abbrev kcell (ck : Dev nD × Option (Fin 32)) : GSem nD τ sig := ((ck.1 : Thread nD τ), csem ck.2)

/-- The credit of one 64×512 block of bytes. -/
abbrev N : ℕ := RefSig.tileCredit S64x512 .i8
theorem N_pos : 0 < N := RefSig.tileCredit_pos _ _ (by decide)

theorem credit_slot (M : Memref sig .tc .vmem S64x512 .i8) : M.view.dmaCredit = N := rfl

/-! ## Contents -/

/-- What the device's windows read: all of `x`, all the routes, the device's two experts. -/
def xst (c : Dev nD) : (cc0_stg0_0 : Ref sig .tc).ty.Contents (Elt F) :=
  (win0_0.blk (0 : Fin 1)).view.read (Elt F) ((s₀ m ρ).mem ((c : Thread nD τ).loc main_arg0))
def ist (c : Dev nD) : (cc0_stg1_0 : Ref sig .tc).ty.Contents (Elt F) :=
  (win0_1.blk (0 : Fin 1)).view.read (Elt F) ((s₀ m ρ).mem ((c : Thread nD τ).loc main_arg2))
def wst (c : Dev nD) : (cc0_stg2_0 : Ref sig .tc).ty.Contents (Elt F) :=
  (win0_2.blk (0 : Fin 1)).view.read (Elt F) ((s₀ m ρ).mem ((c : Thread nD τ).loc main_arg3))

/-- The device's number as the kernel computes it. -/
def me (c : Dev nD) : BitVec 32 := Scalar.remsi (Scalar.divsi (Dev.word c) 1#32) 8#32

/-- The quantised contribution of the device's experts, and the rows' scales. -/
def partq (c : Dev nD) : S512x512.Idx → Elt F .i8 :=
  k0_pay5 (k0_pay4 (me c) (xst m ρ c) (ist m ρ c) (ist m ρ c) (wst m ρ c)) (Scalar.ofBits .f32 0xC2FE0000#32)
def scl (c : Dev nD) : S512x1.Idx → Elt F .f32 := k0_pay3 (xst m ρ c)

/-- The rows of device `p` in device `c`'s contribution, and in its scales. -/
def prow (c p : Dev nD) : S64x512.Idx → Elt F .i8 := fun j => partq m ρ c ((rowR p).emb j)
def srow (c p : Dev nD) : S64x1.Idx → Elt F .f32 := fun j => scl m ρ c ((srowR p).emb j)

/-- Two blocks of bytes added. -/
def acc (a b : S64x512.Idx → Elt F .i8) : S64x512.Idx → Elt F .i8 :=
  trunci 8 (addi (extsi 32 (show IVec S64x512 8 from a) natLt_8_32) (extsi 32 (show IVec S64x512 8 from b) natLt_8_32)) natLt_8_32

/-- Device `c`'s own rows after the first `k` devices' contributions have been added. -/
def redAt (c : Dev nD) : ℕ → S64x512.Idx → Elt F .i8
  | 0 => prow m ρ c c
  | k + 1 => if h : k < 8 then (if (⟨k, h⟩ : Dev nD) = c then redAt c k else acc (F := F) (redAt c k) (prow m ρ ⟨k, h⟩ c)) else redAt c k

/-- The sum, as it is sent round. -/
def redq (c : Dev nD) : S64x512.Idx → Elt F .i8 := redAt m ρ c 8

theorem redAt_ne {c p : Dev nD} (h : p ≠ c) : redAt m ρ c (p.val + 1) = acc (F := F) (redAt m ρ c p.val) (prow m ρ p c) := by
  rw [redAt, dif_pos (show p.val < 8 from p.isLt), if_neg h]
theorem redAt_self (c : Dev nD) : redAt m ρ c (c.val + 1) = redAt m ρ c c.val := by
  rw [redAt, dif_pos (show c.val < 8 from c.isLt), if_pos rfl]

/-- Device `c`'s result on the rows of device `q`. -/
def oblk (c q : Dev nD) : S64x512.Idx → Elt F .f32 := k0_pay15 (redq m ρ q) (srow m ρ c q)

/-! ## The schedule -/

/-- A landing slot of device `q`, at any contents. -/
def slotAny (M : Memref sig .tc .vmem S8x64x512 .i8) (q p : Dev nD) : sProp 𝕄 :=
  iprop(∃ f, (slotM M p).view.loc (q : Thread nD τ) ↦[(slotM M p).view.set]{fullShare} f)

instance slotAny_storable (M) (q p : Dev nD) : BI.Storable (upEmb : UEmb _ 𝕄) (slotAny (F := F) M q p) := by
  unfold slotAny; infer_instance

/-- What device `q`'s signal hands device `c`: the two slots of `q` that `c` writes. -/
def barPay (c q : Dev nD) : sProp 𝕄 := iprop(slotAny rsM q c ∗ slotAny agM q c)

/-- What the wait on a DMA semaphore gives device `c`: the rows it sent, back; device `p`'s contribution to its rows; its
    share of the sum, back; device `p`'s sum. -/
def dmaPay (c : Dev nD) (b : Fin 4) (p : Dev nD) : sProp 𝕄 :=
  match b with
  | 0 => owns (c : Thread nD τ) (rowM p) fullShare (prow m ρ c p)
  | 1 => owns (c : Thread nD τ) (slotM rsM p) fullShare (prow m ρ p c)
  | 2 => owns (c : Thread nD τ) rdM (shareTok fullShare 8 p) (redq m ρ c)
  | 3 => owns (c : Thread nD τ) (slotM agM p) fullShare (redq m ρ p)

instance dmaPay_storable (c b p) : BI.Storable (upEmb : UEmb _ 𝕄) (dmaPay (F := F) m ρ c b p) := by
  unfold dmaPay; split <;> infer_instance

/-- The array and the peer of a DMA semaphore. -/
def arrOf (s : DmaSem sig) : Fin 4 := ⟨(s.val - 4) / 8, by have : s.val < 36 := s.isLt; omega⟩
def peerOf (s : DmaSem sig) : Dev nD := ⟨(s.val - 4) % 8, Nat.mod_lt _ (by decide)⟩

theorem arrOf_six (b : Fin 4) (p : Dev nD) : arrOf (dsem (six b p)) = b := by revert b p; decide
theorem peerOf_six (b : Fin 4) (p : Dev nD) : peerOf (dsem (six b p)) = p := by revert b p; decide
theorem six_surj (i : Fin 32) : ∃ b p, i = six b p :=
  ⟨⟨i.val / 8, by have := i.isLt; omega⟩, ⟨i.val % 8, Nat.mod_lt _ (by decide)⟩, Fin.ext (show i.val = 8 * (i.val / 8) + i.val % 8 by omega)⟩

/-- One round: the barrier of `c` has a duty from every peer, a DMA semaphore of a peer one duty. -/
def ring : Rounds.Schedule (GSem nD τ sig) (Dev nD) 𝕄 where
  duties g r := if r = 0 ∧ g.1.2 = .tc then
      (match g.2 with
        | .reg s => if s = barS then up g.1.1 0 else ∅
        | .dma s => if 4 ≤ s.val ∧ peerOf s ≠ g.1.1 then {0} else ∅)
    else ∅
  unitless _ := False
  amount g _ _ := match g.2 with
    | .reg _ => 1
    | .dma _ => N
  payload g _ d := match g.2 with
    | .reg _ => barPay g.1.1 d
    | .dma s => dmaPay m ρ g.1.1 (arrOf s) (peerOf s)
  amount_pos g _ _ _ := by
    split
    · exact Nat.one_pos
    · exact N_pos

instance ring_payload_storable (g : GSem nD τ sig) (r : ℕ) (d : Dev nD) :
    BI.Storable (upEmb : UEmb _ 𝕄) ((ring (F := F) m ρ).payload g r d) := by
  dsimp only [ring]
  split
  · unfold barPay; infer_instance
  · infer_instance

theorem duties_bar (c : Dev nD) : (ring (F := F) m ρ).duties (barCell c) 0 = up c 0 := by
  dsimp only [ring]; rw [if_pos ⟨rfl, rfl⟩, if_pos rfl]
theorem duties_dma {b : Fin 4} {c p : Dev nD} (h : p ≠ c) : (ring (F := F) m ρ).duties (dcell b c p) 0 = {0} := by
  dsimp only [ring]; rw [if_pos ⟨rfl, rfl⟩, if_pos ⟨Nat.le_add_right _ _, by rw [peerOf_six]; exact h⟩]
theorem duties_own (b : Fin 4) (c : Dev nD) : (ring (F := F) m ρ).duties (dcell b c c) 0 = ∅ := by
  dsimp only [ring]; rw [if_pos ⟨rfl, rfl⟩, if_neg (fun h => h.2 (peerOf_six b c))]
theorem duties_later (g : GSem nD τ sig) : ∀ r, 1 ≤ r → (ring (F := F) m ρ).duties g r = ∅ :=
  fun r hr => by dsimp only [ring]; rw [if_neg fun h => by omega]
theorem duties_own_any (b : Fin 4) (c : Dev nD) : ∀ r, 0 ≤ r → (ring (F := F) m ρ).duties (dcell b c c) r = ∅
  | 0, _ => duties_own m ρ b c
  | r + 1, _ => duties_later m ρ _ _ (Nat.succ_le_succ (Nat.zero_le r))

theorem amount_bar (c d : Dev nD) : (ring (F := F) m ρ).amount (barCell c) 0 d = 1 := rfl
theorem amount_dma (b : Fin 4) (c p d : Dev nD) : (ring (F := F) m ρ).amount (dcell b c p) 0 d = N := rfl
theorem payload_bar (c d : Dev nD) : (ring (F := F) m ρ).payload (barCell c) 0 d = barPay c d := rfl
theorem payload_dma (b : Fin 4) (c p d : Dev nD) : (ring (F := F) m ρ).payload (dcell b c p) 0 d = dmaPay m ρ c b p := by
  show dmaPay m ρ c (arrOf (dsem (six b p))) (peerOf (dsem (six b p))) = _
  rw [arrOf_six, peerOf_six]

theorem card_up_zero (c : Dev nD) : (up c 0).card = 7 := by revert c; decide
theorem expect_bar (c : Dev nD) : (ring (F := F) m ρ).expect (barCell c) 0 = 7 := by
  show ∑ d ∈ (ring (F := F) m ρ).duties (barCell c) 0, (ring (F := F) m ρ).amount (barCell c) 0 d = 7
  rw [duties_bar, Finset.sum_congr rfl fun d _ => amount_bar m ρ c d, Finset.sum_const, card_up_zero]; rfl
theorem expect_dma {b : Fin 4} {c p : Dev nD} (h : p ≠ c) : (ring (F := F) m ρ).expect (dcell b c p) 0 = N := by
  show ∑ d ∈ (ring (F := F) m ρ).duties (dcell b c p) 0, (ring (F := F) m ρ).amount (dcell b c p) 0 d = N
  rw [duties_dma m ρ h, Finset.sum_singleton, amount_dma]

theorem rest_bar (c : Dev nD) :
    bigSep ((ring (F := F) m ρ).duties (barCell c) 0 \ ∅) (fun d => (ring (F := F) m ρ).payload (barCell c) 0 d) = bigSep (up c 0) (barPay c) := by
  rw [Finset.sdiff_empty, duties_bar]; rfl
theorem rest_dma {b : Fin 4} {c p : Dev nD} (h : p ≠ c) :
    bigSep ((ring (F := F) m ρ).duties (dcell b c p) 0 \ ∅) (fun d => (ring (F := F) m ρ).payload (dcell b c p) 0 d) = dmaPay m ρ c b p := by
  rw [Finset.sdiff_empty, duties_dma m ρ h, bigSep_singleton, payload_dma]

/-! ## What a device owes, and the levels that order the waits -/

/-- Device `c` owes each peer numbered `k` and more a barrier unit; a block in the peer's reduce-scatter slot; a block
    in the peer's all-gather slot. -/
def oBar (c : Dev nD) (k : ℕ) : CellTallies nD τ sig Unit := ∑ p ∈ up c k, tallyAt (barCell p) () 1
def oRs (c : Dev nD) (k : ℕ) : CellTallies nD τ sig Unit := ∑ p ∈ up c k, tallyAt (dcell 1 p c) () N
def oAg (c : Dev nD) (k : ℕ) : CellTallies nD τ sig Unit := ∑ p ∈ up c k, tallyAt (dcell 3 p c) () N
def O₀ (c : Dev nD) : CellTallies nD τ sig Unit := oAg c 0 + oRs c 0 + oBar c 0

theorem sum_up_ne {c p : Dev nD} (h : p ≠ c) (f : Dev nD → CellTallies nD τ sig Unit) :
    ∑ q ∈ up c p.val, f q = ∑ q ∈ up c (p.val + 1), f q + f p := by
  rw [up_of_ne h, Finset.sum_insert (not_mem_up c p), add_comm]

def L (g : GSem nD τ sig) : Finset Unit := if g.1.2 = .tc then {()} else ∅
/-- Barriers at 1, reduce-scatter receives at 2, all-gather receives at 3, everything else at 0. -/
def lv (g : GSem nD τ sig) (_ : Unit) : ℕ := match g.2 with
  | .reg _ => 1
  | .dma s => if 4 ≤ s.val then (if arrOf s = 1 then 2 else if arrOf s = 3 then 3 else 0) else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_dma (b : Fin 4) (c p : Dev nD) : lv (dcell b c p) () = if b = 1 then 2 else if b = 3 then 3 else 0 := by
  show (if 4 ≤ (dsem (six b p)).val then (if arrOf (dsem (six b p)) = 1 then 2 else if arrOf (dsem (six b p)) = 3 then 3 else 0) else 0) = _
  rw [if_pos (show 4 ≤ (dsem (six b p)).val from Nat.le_add_right _ _), arrOf_six]

theorem sum_tally_pos {S : Finset (Dev nD)} {f : Dev nD → GSem nD τ sig} {n : ℕ} {g : GSem nD τ sig} {u : Unit}
    (h : 0 < (∑ p ∈ S, tallyAt (f p) () n : CellTallies nD τ sig Unit) g u) : ∃ p, g = f p := by
  induction S using Finset.induction_on with
  | empty => exact absurd h (by rw [Finset.sum_empty]; exact Nat.lt_irrefl 0)
  | insert p S hp ih =>
    rw [Finset.sum_insert hp, Pi.add_apply, Finsupp.add_apply, tallyAt_apply] at h
    by_cases hg : g = f p ∧ u = ()
    · exact ⟨p, hg.1⟩
    · rw [if_neg hg, Nat.zero_add] at h; exact ih h

/-- What is owed at a cell: nothing below the level of the kind of cell. -/
theorem O₀_pos {c : Dev nD} {g : GSem nD τ sig} {u : Unit} (h : 0 < O₀ c g u) :
    (∃ p, g = dcell 3 p c) ∨ (∃ p, g = dcell 1 p c) ∨ ∃ p, g = barCell p := by
  unfold O₀ oAg oRs oBar at h
  rw [Pi.add_apply, Finsupp.add_apply, Pi.add_apply, Finsupp.add_apply] at h
  rcases (by omega : 0 < (∑ p ∈ up c 0, tallyAt (dcell 3 p c) () N : CellTallies nD τ sig Unit) g u
      ∨ 0 < (∑ p ∈ up c 0, tallyAt (dcell 1 p c) () N : CellTallies nD τ sig Unit) g u
      ∨ 0 < (∑ p ∈ up c 0, tallyAt (barCell p) () 1 : CellTallies nD τ sig Unit) g u) with h1 | h1 | h1
  · exact .inl (sum_tally_pos h1)
  · exact .inr (.inl (sum_tally_pos h1))
  · exact .inr (.inr (sum_tally_pos h1))

/-- A wait at level `ℓ` is allowed while all that is owed is at higher levels. -/
theorem mayWait_of (c : Dev nD) (sm : SemLoc sig) (ℓ : ℕ) (O : CellTallies nD τ sig Unit) (hl : lv ((c : Thread nD τ), sm) () ≤ ℓ)
    (hO : ∀ g u, 0 < O g u → g.1.2 = .tc ∧ ℓ < lv g u) :
    (levAts L lv : sProp 𝕄) ⊢ MayWait (c : Thread nD τ) sm () O :=
  MayOwe.of_cut (L := L) (lev := lv) ℓ (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hl)
    (fun g u hg => (hO g u hg).2)

/-- Waiting on a staging semaphore, owing everything; -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine mayWait_of c _ 0 _ ?_ fun g u hg => ?_
    · show (if 4 ≤ q.val then _ else 0) ≤ 0
      rw [if_neg (by omega)]
    · cases u
      rcases O₀_pos hg with ⟨p, rfl⟩ | ⟨p, rfl⟩ | ⟨p, rfl⟩
      · exact ⟨rfl, by rw [lv_dma]; decide⟩
      · exact ⟨rfl, by rw [lv_dma]; decide⟩
      · exact ⟨rfl, by rw [lv_bar]; decide⟩
  · rw [MayWait_zero]; iintro -; iempintro

/-- on the barrier, owing both kinds of block; -/
theorem mayWait_bar (c : Dev nD) : (levAts L lv : sProp 𝕄) ⊢ MayWait (c : Thread nD τ) (.reg barS) () (oAg c 0 + oRs c 0) := by
  refine mayWait_of c _ 1 _ (Nat.le_of_eq (lv_bar c)) fun g u hg => ?_
  rw [Pi.add_apply, Finsupp.add_apply] at hg
  rcases (by omega : 0 < oAg c 0 g u ∨ 0 < oRs c 0 g u) with h1 | h1
  · obtain ⟨p, rfl⟩ := sum_tally_pos h1
    exact ⟨rfl, by rw [lv_dma]; decide⟩
  · obtain ⟨p, rfl⟩ := sum_tally_pos h1
    exact ⟨rfl, by rw [lv_dma]; decide⟩

/-- on a reduce-scatter receive, owing the all-gather's blocks. -/
theorem mayWait_rs (c p : Dev nD) : (levAts L lv : sProp 𝕄) ⊢ MayWait (c : Thread nD τ) (.dma (dsem (six 1 p))) () (oAg c 0) := by
  refine mayWait_of c _ 2 _ (Nat.le_of_eq (lv_dma 1 c p)) fun g u hg => ?_
  cases u
  obtain ⟨p, rfl⟩ := sum_tally_pos hg
  exact ⟨rfl, by rw [lv_dma]; decide⟩

end Cert.KernelIdeal.Run
-- ==== Proof.Blocks.lean ====
/-
# One step of the exchange with one peer

The kernel visits its peers in order, and each visit is guarded by the test that the peer is not the device itself.
A phase's state at number `k` holds what the peers from `k` on are still to use and what the peers before `k`
have left; one lemma per phase takes the state at `k` over the guarded visit to the state at `k + 1`.
-/
module
public import proofs.«01_k».proof.Proof.Mesh

@[expose] public section

set_option backward.proofsInPublic true

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The cells' invariants under the names `K`, and that every cell has reached its round. -/
def records (K : Dev nD × Option (Fin 32) → ℕ) : sProp 𝕄 :=
  iprop((bigSep Finset.univ fun ck : Dev nD × Option (Fin 32) => cellInv ER (ring m ρ) (K ck) (kcell ck))
    ∗ bigSep Finset.univ fun ck : Dev nD × Option (Fin 32) => reached ER (kcell ck) 0)

instance records_persistent (K) : BI.Persistent (records m ρ K) := by unfold records; infer_instance

theorem rec_inv (K : Dev nD × Option (Fin 32) → ℕ) (ck : Dev nD × Option (Fin 32)) :
    records m ρ K ⊢ cellInv ER (ring m ρ) (K ck) (kcell ck) := by
  unfold records
  iintro ⟨H, -⟩
  iapply (show (bigSep Finset.univ fun ck : Dev nD × Option (Fin 32) => (cellInv ER (ring m ρ) (K ck) (kcell ck) : sProp 𝕄)) ⊢ cellInv ER (ring m ρ) (K ck) (kcell ck)
    from bigSep_elim (Finset.mem_univ ck))
  iexact H
theorem rec_reached (K : Dev nD × Option (Fin 32) → ℕ) (ck : Dev nD × Option (Fin 32)) :
    records m ρ K ⊢ reached ER (kcell ck) 0 := by
  unfold records
  iintro ⟨-, H⟩
  iapply (show (bigSep Finset.univ fun ck : Dev nD × Option (Fin 32) => (reached ER (kcell ck) 0 : sProp 𝕄)) ⊢ reached ER (kcell ck) 0
    from bigSep_elim (Finset.mem_univ ck))
  iexact H

/-- What the device owes, whatever it has waited on. -/
def owing (c : Dev nD) (O : CellTallies nD τ sig Unit) : sProp 𝕄 := iprop(∃ W, owes (c : Thread nD τ) O W)

/-- One peer's part of a family set apart, and put with those already visited. -/
theorem take_up {c p : Dev nD} (h : p ≠ c) (Φ : Dev nD → sProp 𝕄) : bigSep (up c p.val) Φ = iprop(Φ p ∗ bigSep (up c (p.val + 1)) Φ) := by
  rw [up_of_ne h, bigSep_insert (not_mem_up c p)]; rfl
theorem put_dn {c p : Dev nD} (h : p ≠ c) (Φ : Dev nD → sProp 𝕄) : bigSep (dn c (p.val + 1)) Φ = iprop(Φ p ∗ bigSep (dn c p.val) Φ) := by
  rw [dn_of_ne h, bigSep_insert (not_mem_dn c p)]; rfl

/-- The weakest precondition of a program of the kernel's body on device `c`. -/
abbrev wpB (c : Dev nD) {α : Type} (k : Prog (TpuEff nD τ sig (Elt F) Λ₀ .tc) α) (Q : α → sProp 𝕄) : sProp 𝕄 :=
  wp frame (wpE (defs₀ (F := F)) 𝒱₀ (c : Thread nD τ) none) Set.univ k Q

/-! ## One effect on memrefs owned at known contents -/

section Steps

/-- A load through a rectangle of an owned memref reads its contents there. -/
theorem load_owns (c : Dev nD) {s : Shape} {e : EltTy} {M : Memref sig .tc .vmem s e} {r : Rect s} {hl : M.view.LoadsAt r.toLoadRect}
    {α : Type} {Q : α → sProp 𝕄} {k : (r.toLoadRect.shape.Idx → Elt F e) → Prog (TpuEff nD τ sig (Elt F) Λ₀ .tc) α} {q : PosShare TreeShare} {X : s.Idx → Elt F e} :
    (owns (c : Thread nD τ) M q X : sProp 𝕄)
      ⊢ iprop((owns (c : Thread nD τ) M q X -∗ wpB c (k fun j => X (r.emb j)) Q) -∗ wpB c (.op (.load M r.toLoadRect hl) k) Q) := by
  unfold owns
  iintro ⟨%f, %hf, H⟩ Hk
  iapply (wp_load 𝒱₀ (c : Thread nD τ) none Set.univ (m := M) (S := M.view.set) (View.setOn_subset_set _ _)) $$ H
  iintro H
  have e₁ : M.view.readAt (Elt F) r.toLoadRect f = fun j => X (r.emb j) := by subst hf; rfl
  rw [e₁]
  iapply Hk
  iexists f
  isplitr; · ipureintro; exact hf
  iexact H

/-- The same where only the rectangle itself is owned. -/
theorem load_slice (c : Dev nD) {s : Shape} {e : EltTy} {M : Memref sig .tc .vmem s e} {r : Rect s} {hr : ∀ a, r.stride a = 1} {hl : M.view.LoadsAt r.toLoadRect}
    {α : Type} {Q : α → sProp 𝕄} {k : (r.toLoadRect.shape.Idx → Elt F e) → Prog (TpuEff nD τ sig (Elt F) Λ₀ .tc) α} {q : PosShare TreeShare} {X : r.shape.Idx → Elt F e} :
    (owns (c : Thread nD τ) (M.slice r hr) q X : sProp 𝕄)
      ⊢ iprop((owns (c : Thread nD τ) (M.slice r hr) q X -∗ wpB c (k X) Q) -∗ wpB c (.op (.load M r.toLoadRect hl) k) Q) := by
  unfold owns
  iintro ⟨%f, %hf, H⟩ Hk
  iapply (wp_load_rect 𝒱₀ (c : Thread nD τ) none Set.univ (m := M) (r := r) (S := (M.slice r hr).view.set) (Finset.Subset.refl _)) $$ H
  iintro H
  have e₁ : (M.access r).read (Elt F) f = X := hf
  rw [e₁]
  iapply Hk
  iexists f
  isplitr; · ipureintro; exact hf
  iexact H

/-- A store over a whole owned rectangle leaves what is stored. -/
theorem store_slice (c : Dev nD) {s : Shape} {e : EltTy} {M : Memref sig .tc .vmem s e} {r : Rect s} {hr : ∀ a, r.stride a = 1} {w : r.shape.Idx → Elt F e}
    {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} {X : r.shape.Idx → Elt F e} :
    (owns (c : Thread nD τ) (M.slice r hr) fullShare X : sProp 𝕄)
      ⊢ iprop((owns (c : Thread nD τ) (M.slice r hr) fullShare w -∗ wpB c (k ⟨⟩) Q) -∗ wpB c (.op (.store M r w Finset.univ hx hm) k) Q) := by
  unfold owns
  iintro ⟨%f, %hf, H⟩ Hk
  iapply (wp_store 𝒱₀ (c : Thread nD τ) none Set.univ (m := M) (r := r) (Mk := Finset.univ) (S := (M.slice r hr).view.set) (Finset.Subset.refl _)) $$ H
  iintro H
  iapply Hk
  iexists _
  isplitr
  · ipureintro; exact View.read_write_univ f w
  iexact H

/-- A store over a whole owned buffer leaves what is stored. -/
theorem store_whole (c : Dev nD) {cs : CoreSpace} {i : Fin (sig.nNear Kind.tc cs)} {hκ : sig.names Kind.tc cs i = true} {off : Fin (⟨cs, i, hκ⟩ : Ref sig .tc).ty.shape.rank → ℕ} (hz : off = fun _ => 0)
    {inb : ∀ a, off a + (⟨cs, i, hκ⟩ : Ref sig .tc).ty.shape.size a ≤ (⟨cs, i, hκ⟩ : Ref sig .tc).ty.shape.size a} {w : (⟨cs, i, hκ⟩ : Ref sig .tc).ty.Contents (Elt F)}
    {hx : ((Memref.whole (⟨cs, i, hκ⟩ : Ref sig .tc)).access (Rect.unit off (⟨cs, i, hκ⟩ : Ref sig .tc).ty.shape.size inb)).Stores Finset.univ}
    {hm : (Finset.univ : Finset (Rect.unit off (⟨cs, i, hκ⟩ : Ref sig .tc).ty.shape.size inb).shape.Idx) = Finset.univ ∨ ∀ a, (Rect.unit off (⟨cs, i, hκ⟩ : Ref sig .tc).ty.shape.size inb).stride a = 1}
    {α : Type} {Q : α → sProp 𝕄} {k : PUnit → Prog (TpuEff nD τ sig (Elt F) Λ₀ .tc) α} {X : (⟨cs, i, hκ⟩ : Ref sig .tc).ty.Contents (Elt F)} :
    (owns (c : Thread nD τ) (Memref.whole (⟨cs, i, hκ⟩ : Ref sig .tc)) fullShare X : sProp 𝕄)
      ⊢ iprop((owns (c : Thread nD τ) (Memref.whole (⟨cs, i, hκ⟩ : Ref sig .tc)) fullShare w -∗ wpB c (k ⟨⟩) Q)
        -∗ wpB c (.op (.store (Memref.whole (⟨cs, i, hκ⟩ : Ref sig .tc)) (Rect.unit off (⟨cs, i, hκ⟩ : Ref sig .tc).ty.shape.size inb) w Finset.univ hx hm) k) Q) := by
  rw [owns_whole, owns_whole]
  iintro H Hk
  iapply (wp_store 𝒱₀ (c : Thread nD τ) none Set.univ (m := Memref.whole (⟨cs, i, hκ⟩ : Ref sig .tc)) (r := Rect.unit off (⟨cs, i, hκ⟩ : Ref sig .tc).ty.shape.size inb) (Mk := Finset.univ) (S := Finset.univ) (f := X) (Finset.subset_univ _)) $$ H
  iintro H
  rw [Memref.write_access_unit_zero_univ (Elt F) _ hz]
  iapply Hk
  iexact H

theorem zero2 : (![0, 0] : Fin 2 → ℕ) = fun _ => 0 := by decide

theorem store_p (c : Dev nD) {inb : ∀ a, (![0, 0] : Fin 2 → ℕ) a + S512x512.size a ≤ S512x512.size a} {w : S512x512.Idx → Elt F .i8}
    {hx : (pM.access (Rect.unit (s := S512x512) ![0, 0] S512x512.size inb)).Stores Finset.univ}
    {hm : (Finset.univ : Finset (Rect.unit (s := S512x512) ![0, 0] S512x512.size inb).shape.Idx) = Finset.univ ∨ ∀ a, (Rect.unit (s := S512x512) ![0, 0] S512x512.size inb).stride a = 1}
    {α : Type} {Q : α → sProp 𝕄} {k : PUnit → Prog (TpuEff nD τ sig (Elt F) Λ₀ .tc) α} {X : S512x512.Idx → Elt F .i8} :
    (owns (c : Thread nD τ) pM fullShare X : sProp 𝕄)
      ⊢ iprop((owns (c : Thread nD τ) pM fullShare w -∗ wpB c (k ⟨⟩) Q)
        -∗ wpB c (.op (.store pM (Rect.unit (s := S512x512) ![0, 0] S512x512.size inb) w Finset.univ hx hm) k) Q) :=
  store_whole c (i := (cc0_scratch0 : Ref sig .tc).idx) (hκ := (cc0_scratch0 : Ref sig .tc).names) zero2

theorem store_sc (c : Dev nD) {inb : ∀ a, (![0, 0] : Fin 2 → ℕ) a + S512x1.size a ≤ S512x1.size a} {w : S512x1.Idx → Elt F .f32}
    {hx : (scM.access (Rect.unit (s := S512x1) ![0, 0] S512x1.size inb)).Stores Finset.univ}
    {hm : (Finset.univ : Finset (Rect.unit (s := S512x1) ![0, 0] S512x1.size inb).shape.Idx) = Finset.univ ∨ ∀ a, (Rect.unit (s := S512x1) ![0, 0] S512x1.size inb).stride a = 1}
    {α : Type} {Q : α → sProp 𝕄} {k : PUnit → Prog (TpuEff nD τ sig (Elt F) Λ₀ .tc) α} {X : S512x1.Idx → Elt F .f32} :
    (owns (c : Thread nD τ) scM fullShare X : sProp 𝕄)
      ⊢ iprop((owns (c : Thread nD τ) scM fullShare w -∗ wpB c (k ⟨⟩) Q)
        -∗ wpB c (.op (.store scM (Rect.unit (s := S512x1) ![0, 0] S512x1.size inb) w Finset.univ hx hm) k) Q) :=
  store_whole c (i := (cc0_scratch1 : Ref sig .tc).idx) (hκ := (cc0_scratch1 : Ref sig .tc).names) zero2

theorem store_rd (c : Dev nD) {inb : ∀ a, (![0, 0] : Fin 2 → ℕ) a + S64x512.size a ≤ S64x512.size a} {w : S64x512.Idx → Elt F .i8}
    {hx : (rdM.access (Rect.unit (s := S64x512) ![0, 0] S64x512.size inb)).Stores Finset.univ}
    {hm : (Finset.univ : Finset (Rect.unit (s := S64x512) ![0, 0] S64x512.size inb).shape.Idx) = Finset.univ ∨ ∀ a, (Rect.unit (s := S64x512) ![0, 0] S64x512.size inb).stride a = 1}
    {α : Type} {Q : α → sProp 𝕄} {k : PUnit → Prog (TpuEff nD τ sig (Elt F) Λ₀ .tc) α} {X : S64x512.Idx → Elt F .i8} :
    (owns (c : Thread nD τ) rdM fullShare X : sProp 𝕄)
      ⊢ iprop((owns (c : Thread nD τ) rdM fullShare w -∗ wpB c (k ⟨⟩) Q)
        -∗ wpB c (.op (.store rdM (Rect.unit (s := S64x512) ![0, 0] S64x512.size inb) w Finset.univ hx hm) k) Q) :=
  store_whole c (i := (cc0_scratch3 : Ref sig .tc).idx) (hκ := (cc0_scratch3 : Ref sig .tc).names) zero2

/-- A load of a landing slot gives its block under a leading axis of one. -/
theorem load_slot (c p : Dev nD) {M : Memref sig .tc .vmem S8x64x512 .i8} {off : Fin 3 → ℕ} (hoff : off = ![p.val, 0, 0])
    {inb : ∀ a, off a + S1x64x512.size a ≤ S8x64x512.size a} {hl : M.view.LoadsAt (Rect.unit (s := S8x64x512) off S1x64x512.size inb).toLoadRect}
    {α : Type} {Q : α → sProp 𝕄} {k : (S1x64x512.Idx → Elt F .i8) → Prog (TpuEff nD τ sig (Elt F) Λ₀ .tc) α} {q : PosShare TreeShare} {X : S64x512.Idx → Elt F .i8} :
    (owns (c : Thread nD τ) (slotM M p) q X : sProp 𝕄)
      ⊢ iprop((∀ v : S1x64x512.Idx → Elt F .i8, ⌜shapeCast S64x512 v shapeCasts_S1x64x512_S64x512 = X⌝ -∗ owns (c : Thread nD τ) (slotM M p) q X -∗ wpB c (k v) Q)
        -∗ wpB c (.op (.load M (Rect.unit (s := S8x64x512) off S1x64x512.size inb).toLoadRect hl) k) Q) := by
  subst hoff
  unfold owns
  iintro ⟨%f, %hf, H⟩ Hk
  iapply (wp_load 𝒱₀ (c : Thread nD τ) none Set.univ (m := M) (S := (slotM M p).view.set) (by
    have : (slotM M p).view.set = M.view.setOn (slotR p).set := by
      rw [show (slotM M p).view.set = (M.slice (slotR p) (fun _ => rfl)).view.set from View.set_reshape _ _]
      exact View.set_slice _ _
    rw [this])) $$ H
  iintro H
  iapply Hk $$ [] [H]
  · ipureintro
    exact (Memref.read_squeeze_slice M (slotR p) (fun _ => rfl) squeezes_S1x64x512_S64x512 shapeCasts_S1x64x512_S64x512 f).symm.trans hf
  · iexists f
    isplitr; · ipureintro; exact hf
    iexact H

/-- An addressed transfer to device `p` of a block owned at a share: the block goes on the sender's cell, the slot it lands in,
    at the block's contents, on the receiver's. -/
theorem send_step (K : Dev nD × Option (Fin 32) → ℕ) (b b' : Fin 4) (c p n : Dev nD) (hne : p ≠ c) (hn : n = p)
    {src : Memref sig .tc .vmem S64x512 .i8} {dst : Memref sig .tc .vmem S64x512 .i8}
    {s₁ s₂ : DmaSem sig} (hs₁ : s₁ = dsem (six b p)) (hs₂ : s₂ = dsem (six b' c)) {q : PosShare TreeShare} {X : S64x512.Idx → Elt F .i8}
    (hp₁ : (dmaPay m ρ c b p : sProp 𝕄) = owns (c : Thread nD τ) src q X)
    (hp₂ : (dmaPay m ρ p b' c : sProp 𝕄) = owns (p : Thread nD τ) dst fullShare X)
    {hsc : (dst : Memref sig (Dev.tc n : Thread nD τ).2.kind .vmem S64x512 .i8).view.ref.isScScratch = false}
    {hsrc : src.view.WordExact} {hdst : dst.view.WordExact}
    {hsem : DmaTarget.Typed .vmem (.dma s₂) (.remote (Dev.tc n : Thread nD τ) (dst : Memref sig (Dev.tc n : Thread nD τ).2.kind .vmem S64x512 .i8) (.dma s₁) hsc)}
    {α : Type} {Q : α → sProp 𝕄} {k : PUnit → Prog (TpuEff nD τ sig (Elt F) Λ₀ .tc) α} (O : CellTallies nD τ sig Unit) :
    iprop(records m ρ K ∗ owns (c : Thread nD τ) src q X ∗ (∃ f, dst.view.loc (p : Thread nD τ) ↦[dst.view.set]{fullShare} f)
        ∗ owing c (O + tallyAt (dcell b' p c) () N) ∗ dutyTok ER (dcell b c p) 0 0 ∗ dutyTok ER (dcell b' p c) 0 0)
      ⊢ iprop(((cred (tallyAt (dcell b c p) () N) ∗ owing c O) -∗ wpB c (k ⟨⟩) Q)
          -∗ wpB c (.op (.enqueueDma src (.remote (Dev.tc n : Thread nD τ) dst (.dma s₁) hsc) (.dma s₂) hsrc hdst hsem) k) Q) := by
  subst hn hs₁ hs₂
  unfold owing owns
  iintro ⟨#Hrec, ⟨%fs, %hfs, Hs⟩, ⟨%fd, Hd⟩, ⟨%W, HO⟩, Ht₁, Ht₂⟩ Hk
  ihave #Hi₁ := (rec_inv m ρ K (c, some (six b n))) $$ Hrec
  ihave #Hr₁ := (rec_reached m ρ K (c, some (six b n))) $$ Hrec
  ihave #Hi₂ := (rec_inv m ρ K (n, some (six b' c))) $$ Hrec
  ihave #Hr₂ := (rec_reached m ρ K (n, some (six b' c))) $$ Hrec
  iapply (Rounds.wp_send_pointsTo 𝒱₀ ER (ring m ρ) (c : Thread nD τ) none (c' := (n : Thread nD τ)) (src := src) (dst := dst)
    (κ₁ := K (c, some (six b n))) (κ₂ := K (n, some (six b' c)))
    (r₁ := 0) (r₂ := 0) (d₁ := 0) (d₂ := 0) (fs := fs) (fd := fd)
    (by rw [duties_dma m ρ hne]; exact Finset.mem_singleton_self _) (by rw [duties_dma m ρ hne.symm]; exact Finset.mem_singleton_self _)
    () () N rfl (amount_dma m ρ b c n 0) (amount_dma m ρ b' n c 0) O rfl (W := W)
    (by
      rw [payload_dma, hp₁]; unfold owns
      iintro H; iexists fs
      isplitr; · ipureintro; exact hfs
      iexact H)
    (by
      rw [payload_dma, hp₂]; unfold owns
      iintro H; iexists _
      isplitr
      · ipureintro; exact (View.read_write_univ fd _).trans hfs
      iexact H)) $$ [Hs Hd HO Ht₁ Ht₂]
  · isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- A wait on a DMA semaphore of peer `p`: what its transfer brings or brings back, and the semaphore at zero for good. -/
theorem wait_step (K : Dev nD × Option (Fin 32) → ℕ) (b : Fin 4) (c p : Dev nD) (hne : p ≠ c) {s : DmaSem sig} (hs : s = dsem (six b p))
    {src dst : Memref sig .tc .vmem S64x512 .i8} {hsrc : src.view.WordExact} {hdst : dst.view.WordExact}
    {α : Type} {Q : α → sProp 𝕄} {k : PUnit → Prog (TpuEff nD τ sig (Elt F) Λ₀ .tc) α} (O : CellTallies nD τ sig Unit)
    (hmay : (levAts L lv : sProp 𝕄) ⊢ MayWait (c : Thread nD τ) (.dma (dsem (six b p))) () O) :
    iprop(records m ρ K ∗ levAts L lv ∗ owing c O ∗ cred (tallyAt (dcell b c p) () N) ∗ atPos ER (dcell b c p) 0 ∅ 0)
      ⊢ iprop(((owing c O ∗ semVal (dcell b c p) 0 ∗ dmaPay m ρ c b p) -∗ wpB c (k ⟨⟩) Q)
          -∗ wpB c (.op (.waitDma2 s src dst hsrc hdst) k) Q) := by
  subst hs
  unfold owing
  iintro ⟨#Hrec, #Hlev, ⟨%W, HO⟩, Hc, Hat⟩ Hk
  ihave #Hi := (rec_inv m ρ K (c, some (six b p))) $$ Hrec
  iapply (Rounds.wp_wait_rest_token 𝒱₀ ER (ring m ρ) (c : Thread nD τ) none (κ := K (c, some (six b p)))
      (wpE_waitDma2_eq 𝒱₀ (c : Thread nD τ) none Set.univ) (Set.mem_univ _) () (O := O) (W := W) (R := 0) (m := 0) (T := ∅)
      (by rw [Nat.zero_add, expect_dma m ρ hne])) $$ [Hc HO Hat]
  · isplitr; · iexact Hi
    isplitl [Hc]; · iexact Hc
    isplitl [HO]; · iexact HO
    isplitr; · iapply hmay; iexact Hlev
    iexact Hat
  iintro ⟨HO, Hat, -, Hpay⟩
  ihave Hp := (Entails.of_eq (rest_dma m ρ hne)) $$ Hpay
  imod (Rounds.cell_close ER (ring m ρ) (Set.mem_univ (K (c, some (six b p)))) (fun h => h) (R := 0 + 1) (duties_later m ρ (dcell b c p))) $$ [Hat] with Hz
  · isplitr; · iexact Hi
    iexact Hat
  iapply Hk
  isplitl [HO]; · iexists _; iexact HO
  isplitl [Hz]; · iexact Hz
  iexact Hp

end Steps

/-! ## Signals -/

/-- The peers from `k` on are still to be signalled. -/
def sigSt (K : Dev nD × Option (Fin 32) → ℕ) (c : Dev nD) (k : ℕ) : sProp 𝕄 :=
  iprop(records m ρ K ∗ owing c (oAg c 0 + oRs c 0 + oBar c k)
    ∗ bigSep (up c k) fun p => iprop(dutyTok ER (barCell p) 0 c ∗ barPay p c))

theorem sig_block (K : Dev nD × Option (Fin 32) → ℕ) (c p : Dev nD) {P : Prop} [Decidable P] (hP : P ↔ p ≠ c) (n : P → Dev nD) (hn : ∀ h, n h = p) {α : Type}
    {Q : α → sProp 𝕄} {k : Prog (TpuEff nD τ sig (Elt F) Λ₀ .tc) α} (R : sProp 𝕄)
    (hk : iprop(sigSt m ρ K c (p.val + 1) ∗ R) ⊢ wpB c k Q) :
    iprop(sigSt m ρ K c p.val ∗ R) ⊢ wpB c (dite P (fun h => Bind.bind (semSignalWord (n h) barS 1#32) fun _ => k) fun _ => k) Q := by
  by_cases h : P
  · rw [dif_pos h, hn h]
    have hne := hP.mp h
    refine BIBase.Entails.trans ?_ (show wpB c (.op (.semSignal ((p : Dev nD), .tc) barS (1#32).toInt) fun _ => k) Q ⊢ _ from Entails.of_eq rfl)
    unfold sigSt owing oBar
    rw [take_up hne, sum_up_ne hne, ← add_assoc]
    iintro ⟨⟨#Hrec, ⟨%W, HO⟩, ⟨Htok, Hpay⟩, Hup⟩, HR⟩
    ihave #Hi := (rec_inv m ρ K (p, none)) $$ Hrec
    ihave #Hr := (rec_reached m ρ K (p, none)) $$ Hrec
    iapply (Rounds.wp_signal 𝒱₀ ER (ring m ρ) (c : Thread nD τ) none (dst := (p : Thread nD τ)) (κ := K (p, none)) (d := c)
      (by rw [duties_bar]; exact mem_up.mpr ⟨Nat.zero_le _, hne.symm⟩) ((amount_bar m ρ p c).trans (by decide)) () _ rfl) $$ [HO Htok Hpay]
    · isplitr; · iexact Hi
      isplitl [HO]; · iexact HO
      isplitl [Htok]; · iexact Htok
      isplitl [Hpay]; · rw [payload_bar]; iexact Hpay
      iexact Hr
    iintro HO
    iapply hk
    unfold sigSt owing oBar
    isplitr [HR]
    · isplitr; · iexact Hrec
      isplitl [HO]; · iexists W; iexact HO
      iexact Hup
    iexact HR
  · rw [dif_neg h]
    have hc : p = c := by by_contra hne; exact h (hP.mpr hne)
    subst hc
    refine (Entails.of_eq ?_).trans hk
    unfold sigSt oBar
    rw [up_self]

/-! ## The semaphores the program names -/

theorem sem_at0 {off : Fin 1 → ℕ} (p : Dev nD) (h : off = ![p.val]) (inb : ∀ a, off a + S1.size a ≤ S8.size a) :
    ((cc0_scratch5.slice (Rect.unit (s := S8) off S1.size inb)).squeeze S_ squeezes_S1_S_).sem = dsem (six 0 p) := by
  subst h; revert p; decide
theorem sem_at1 {off : Fin 1 → ℕ} (p : Dev nD) (h : off = ![p.val]) (inb : ∀ a, off a + S1.size a ≤ S8.size a) :
    ((cc0_scratch6.slice (Rect.unit (s := S8) off S1.size inb)).squeeze S_ squeezes_S1_S_).sem = dsem (six 1 p) := by
  subst h; revert p; decide
theorem sem_at2 {off : Fin 1 → ℕ} (p : Dev nD) (h : off = ![p.val]) (inb : ∀ a, off a + S1.size a ≤ S8.size a) :
    ((cc0_scratch7.slice (Rect.unit (s := S8) off S1.size inb)).squeeze S_ squeezes_S1_S_).sem = dsem (six 2 p) := by
  subst h; revert p; decide
theorem sem_at3 {off : Fin 1 → ℕ} (p : Dev nD) (h : off = ![p.val]) (inb : ∀ a, off a + S1.size a ≤ S8.size a) :
    ((cc0_scratch8.slice (Rect.unit (s := S8) off S1.size inb)).squeeze S_ squeezes_S1_S_).sem = dsem (six 3 p) := by
  subst h; revert p; decide

/-- A landing slot named through any offset that is its own. -/
theorem slot_at (M : Memref sig .tc .vmem S8x64x512 .i8) {off : Fin 3 → ℕ} (p : Dev nD) (h : off = ![p.val, 0, 0])
    (inb : ∀ a, off a + S1x64x512.size a ≤ S8x64x512.size a) :
    (M.slice (Rect.unit (s := S8x64x512) off S1x64x512.size inb) (fun _ => rfl)).squeeze S64x512 squeezes_S1x64x512_S64x512 = slotM M p := by
  subst h; rfl

/-- Contents read through the whole of a shape are the contents. -/
theorem emb_unit_zero {s : Shape} {e : EltTy} {off : Fin s.rank → ℕ} (hz : off = fun _ => 0) {inb : ∀ a, off a + s.size a ≤ s.size a}
    (X : s.Idx → Elt F e) : (fun j => X ((Rect.unit off s.size inb).emb j)) = X := by
  subst hz
  funext j
  exact congrArg X (funext fun a => Fin.ext (by simp [Rect.emb_apply]))

/-! ## Sends -/

/-- The peers from `k` on are still to be sent their block `src p`, which goes to this device's slot `dst` of theirs. -/
def sendSt (K : Dev nD × Option (Fin 32) → ℕ) (c : Dev nD) (b b' : Fin 4) (O : CellTallies nD τ sig Unit) (src : Dev nD → Memref sig .tc .vmem S64x512 .i8)
    (q : Dev nD → PosShare TreeShare) (X : Dev nD → S64x512.Idx → Elt F .i8) (dst : Memref sig .tc .vmem S64x512 .i8) (k : ℕ) : sProp 𝕄 :=
  iprop(records m ρ K ∗ owing c (O + ∑ p ∈ up c k, tallyAt (dcell b' p c) () N)
    ∗ (bigSep (up c k) fun p => iprop(owns (c : Thread nD τ) (src p) (q p) (X p) ∗ (∃ f, dst.view.loc (p : Thread nD τ) ↦[dst.view.set]{fullShare} f)
        ∗ dutyTok ER (dcell b c p) 0 0 ∗ dutyTok ER (dcell b' p c) 0 0))
    ∗ bigSep (dn c k) fun p => cred (tallyAt (dcell b c p) () N))

theorem send_block (K : Dev nD × Option (Fin 32) → ℕ) (c p : Dev nD) (b b' : Fin 4) (O : CellTallies nD τ sig Unit) (src : Dev nD → Memref sig .tc .vmem S64x512 .i8)
    (q : Dev nD → PosShare TreeShare) (X : Dev nD → S64x512.Idx → Elt F .i8) (dst : Memref sig .tc .vmem S64x512 .i8)
    (hp₁ : ∀ p, (dmaPay m ρ c b p : sProp 𝕄) = owns (c : Thread nD τ) (src p) (q p) (X p))
    (hp₂ : ∀ p, (dmaPay m ρ p b' c : sProp 𝕄) = owns (p : Thread nD τ) dst fullShare (X p))
    {P : Prop} [Decidable P] (hP : P ↔ p ≠ c) (n : P → Dev nD) (hn : ∀ h, n h = p)
    (src' dst' : P → Memref sig .tc .vmem S64x512 .i8) (hsrc : ∀ h, src' h = src p) (hdst : ∀ h, dst' h = dst)
    (s₁ s₂ : P → DmaSem sig) (hs₁ : ∀ h, s₁ h = dsem (six b p)) (hs₂ : ∀ h, s₂ h = dsem (six b' c))
    {hsc : ∀ h, (dst' h : Memref sig (Dev.tc (n h) : Thread nD τ).2.kind .vmem S64x512 .i8).view.ref.isScScratch = false}
    {w₁ : ∀ h, (src' h).view.WordExact} {w₂ : ∀ h, (dst' h).view.WordExact}
    {ht : ∀ h, DmaTarget.Typed .vmem (.dma (s₂ h)) (.remote (Dev.tc (n h) : Thread nD τ) (dst' h : Memref sig (Dev.tc (n h) : Thread nD τ).2.kind .vmem S64x512 .i8) (.dma (s₁ h)) (hsc h))}
    {α : Type} {Q : α → sProp 𝕄} {k : Prog (TpuEff nD τ sig (Elt F) Λ₀ .tc) α} (R : sProp 𝕄)
    (hk : iprop(sendSt m ρ K c b b' O src q X dst (p.val + 1) ∗ R) ⊢ wpB c k Q) :
    iprop(sendSt m ρ K c b b' O src q X dst p.val ∗ R)
      ⊢ wpB c (dite P (fun h => Bind.bind (Prog.lift (.enqueueDma (src' h) (.remote (Dev.tc (n h) : Thread nD τ) (dst' h) (.dma (s₁ h)) (hsc h)) (.dma (s₂ h)) (w₁ h) (w₂ h) (ht h)))
          fun _ => k) fun _ => k) Q := by
  by_cases h : P
  · rw [dif_pos h]
    have hne := hP.mp h
    refine BIBase.Entails.trans ?_ (show wpB c (.op (.enqueueDma (src' h) (.remote (Dev.tc (n h) : Thread nD τ) (dst' h) (.dma (s₁ h)) (hsc h)) (.dma (s₂ h)) (w₁ h) (w₂ h) (ht h)) fun _ => k) Q
      ⊢ _ from Entails.of_eq rfl)
    unfold sendSt
    rw [take_up hne, sum_up_ne hne, ← add_assoc]
    iintro ⟨⟨#Hrec, HO, ⟨⟨Hs, Hd, Ht₁, Ht₂⟩, Hup⟩, Hdn⟩, HR⟩
    iapply (send_step m ρ K b b' c p (n h) hne (hn h) (hs₁ h) (hs₂ h) (q := q p) (X := X p) (by rw [hsrc, hp₁]) (by rw [hdst, hp₂])
      (O + ∑ p ∈ up c (p.val + 1), tallyAt (dcell b' p c) () N)) $$ [Hs Hd HO Ht₁ Ht₂]
    · rw [hsrc, hdst]
      isplitr; · iexact Hrec
      isplitl [Hs]; · iexact Hs
      isplitl [Hd]; · iexact Hd
      isplitl [HO]; · iexact HO
      isplitl [Ht₁]; · iexact Ht₁
      iexact Ht₂
    iintro ⟨Hc, HO⟩
    iapply hk
    unfold sendSt
    rw [put_dn hne]
    isplitr [HR]
    · isplitr; · iexact Hrec
      isplitl [HO]; · iexact HO
      isplitl [Hup]; · iexact Hup
      isplitl [Hc]; · iexact Hc
      iexact Hdn
    iexact HR
  · rw [dif_neg h]
    have hc : p = c := by by_contra hne; exact h (hP.mpr hne)
    subst hc
    refine (Entails.of_eq ?_).trans hk
    unfold sendSt
    rw [up_self, dn_self]

/-! ## Receives of the reduce-scatter -/

/-- The device's sum holds the contributions of the devices before `k`. -/
def rsSt (K : Dev nD × Option (Fin 32) → ℕ) (c : Dev nD) (k : ℕ) : sProp 𝕄 :=
  iprop(records m ρ K ∗ levAts L lv ∗ owing c (oAg c 0) ∗ owns (c : Thread nD τ) rdM fullShare (redAt m ρ c k)
    ∗ (bigSep (up c k) fun p => iprop(cred (tallyAt (dcell 1 c p) () N) ∗ atPos ER (dcell 1 c p) 0 ∅ 0))
    ∗ bigSep (dn c k) fun p => iprop(semVal (dcell 1 c p) 0 ∗ owns (c : Thread nD τ) (slotM rsM p) fullShare (prow m ρ p c)))

theorem rs_block (K : Dev nD × Option (Fin 32) → ℕ) (c p : Dev nD) {P : Prop} [Decidable P] (hP : P ↔ p ≠ c)
    (s : P → DmaSem sig) (hs : ∀ h, s h = dsem (six 1 p)) (σ δ : P → Memref sig .tc .vmem S64x512 .i8)
    {w₁ : ∀ h, (σ h).view.WordExact} {w₂ : ∀ h, (δ h).view.WordExact} {off : Fin 3 → ℕ} (hoff : off = ![p.val, 0, 0])
    {inb : ∀ a, off a + S1x64x512.size a ≤ S8x64x512.size a} {l₁ l₂ l₃ hx hm}
    (pay : (S64x512.Idx → Elt F .i8) → (S1x64x512.Idx → Elt F .i8) → S64x512.Idx → Elt F .i8)
    (hpay : ∀ a v, pay a v = acc (F := F) a (shapeCast S64x512 v shapeCasts_S1x64x512_S64x512))
    {α : Type} {Q : α → sProp 𝕄} {k : Prog (TpuEff nD τ sig (Elt F) Λ₀ .tc) α} (R : sProp 𝕄)
    (hk : iprop(rsSt m ρ K c (p.val + 1) ∗ R) ⊢ wpB c k Q) :
    iprop(rsSt m ρ K c p.val ∗ R)
      ⊢ wpB c (dite P (fun h => Bind.bind (Prog.lift (.waitDma2 (s h) (σ h) (δ h) (w₁ h) (w₂ h))) fun _ =>
          Bind.bind (Prog.lift (.load rdM (Rect.unit (s := S64x512) ![0, 0] S64x512.size inb_S64x512_S64x512_0_0).toLoadRect l₁)) fun a =>
          Bind.bind (Prog.lift (.load rsM (Rect.unit (s := S8x64x512) off S1x64x512.size inb).toLoadRect l₂)) fun v =>
          Bind.bind (Prog.lift (.load rdM (Rect.unit (s := S64x512) ![0, 0] S64x512.size inb_S64x512_S64x512_0_0).toLoadRect l₃)) fun _ =>
          Bind.bind (Prog.lift (.store rdM (Rect.unit (s := S64x512) ![0, 0] S64x512.size inb_S64x512_S64x512_0_0) (pay a v) Finset.univ hx hm)) fun _ => k)
          fun _ => k) Q := by
  by_cases h : P
  · rw [dif_pos h]
    have hne := hP.mp h
    refine BIBase.Entails.trans ?_ (show wpB c (.op (.waitDma2 (s h) (σ h) (δ h) (w₁ h) (w₂ h)) fun _ =>
        .op (.load rdM (Rect.unit (s := S64x512) ![0, 0] S64x512.size inb_S64x512_S64x512_0_0).toLoadRect l₁) fun a =>
        .op (.load rsM (Rect.unit (s := S8x64x512) off S1x64x512.size inb).toLoadRect l₂) fun v =>
        .op (.load rdM (Rect.unit (s := S64x512) ![0, 0] S64x512.size inb_S64x512_S64x512_0_0).toLoadRect l₃) fun _ =>
        .op (.store rdM (Rect.unit (s := S64x512) ![0, 0] S64x512.size inb_S64x512_S64x512_0_0) (pay a v) Finset.univ hx hm) fun _ => k) Q
      ⊢ _ from Entails.of_eq rfl)
    unfold rsSt
    rw [take_up hne]
    iintro ⟨⟨#Hrec, #Hlev, HO, Hrd, ⟨⟨Hc, Hat⟩, Hup⟩, Hdn⟩, HR⟩
    iapply (wait_step m ρ K 1 c p hne (hs h) (oAg c 0) (mayWait_rs c p)) $$ [HO Hc Hat]
    · isplitr; · iexact Hrec
      isplitr; · iexact Hlev
      isplitl [HO]; · iexact HO
      isplitl [Hc]; · iexact Hc
      iexact Hat
    iintro ⟨HO, Hz, Hsl⟩
    iapply (load_owns c) $$ Hrd
    iintro Hrd
    ihave Hsl := (Entails.of_eq (show dmaPay m ρ c 1 p = owns (c : Thread nD τ) (slotM rsM p) fullShare (prow m ρ p c) from rfl)) $$ Hsl
    iapply (load_slot c p hoff (X := prow m ρ p c)) $$ Hsl
    iintro %v %hv Hsl
    iapply (load_owns c) $$ Hrd
    iintro Hrd
    iapply (store_rd c) $$ Hrd
    iintro Hrd
    iapply hk
    unfold rsSt
    rw [put_dn hne, redAt_ne m ρ hne]
    isplitr [HR]
    · isplitr; · iexact Hrec
      isplitr; · iexact Hlev
      isplitl [HO]; · iexact HO
      isplitl [Hrd]
      · rw [hpay, hv, emb_unit_zero zero2]; iexact Hrd
      isplitl [Hup]; · iexact Hup
      isplitl [Hz Hsl]
      · isplitl [Hz]; · iexact Hz
        iexact Hsl
      iexact Hdn
    iexact HR
  · rw [dif_neg h]
    have hc : p = c := by by_contra hne; exact h (hP.mpr hne)
    subst hc
    refine (Entails.of_eq ?_).trans hk
    unfold rsSt
    rw [up_self, dn_self, redAt_self]

/-! ## Receives of the all-gather -/

/-- The rows of device `p` in the output. -/
abbrev orow (p : Dev nD) : Memref sig .tc .vmem S64x512 .f32 := oM.slice (rowR p) (fun _ => rfl)

theorem mayWait_nil (c : Dev nD) (sm : SemLoc sig) : (levAts L lv : sProp 𝕄) ⊢ MayWait (c : Thread nD τ) sm () 0 := by
  rw [MayWait_zero]; iintro -; iempintro

/-- The output holds the rows of the devices before `k`. -/
def agSt (K : Dev nD × Option (Fin 32) → ℕ) (c : Dev nD) (k : ℕ) : sProp 𝕄 :=
  iprop(records m ρ K ∗ levAts L lv ∗ owing c 0 ∗ owns (c : Thread nD τ) scM fullShare (scl m ρ c)
    ∗ (bigSep (up c k) fun p => iprop(cred (tallyAt (dcell 3 c p) () N) ∗ atPos ER (dcell 3 c p) 0 ∅ 0 ∗ ∃ X, owns (c : Thread nD τ) (orow p) fullShare X))
    ∗ bigSep (dn c k) fun p => iprop(semVal (dcell 3 c p) 0 ∗ owns (c : Thread nD τ) (slotM agM p) fullShare (redq m ρ p)
        ∗ owns (c : Thread nD τ) (orow p) fullShare (oblk m ρ c p)))

theorem ag_block (K : Dev nD × Option (Fin 32) → ℕ) (c p : Dev nD) {P : Prop} [Decidable P] (hP : P ↔ p ≠ c)
    (s : P → DmaSem sig) (hs : ∀ h, s h = dsem (six 3 p)) (σ δ : P → Memref sig .tc .vmem S64x512 .i8)
    {w₁ : ∀ h, (σ h).view.WordExact} {w₂ : ∀ h, (δ h).view.WordExact} {off : Fin 3 → ℕ} (hoff : off = ![p.val, 0, 0])
    {inb : ∀ a, off a + S1x64x512.size a ≤ S8x64x512.size a} {off₂ : Fin 2 → ℕ} (hoff₂ : off₂ = ![64 * p.val, 0])
    {inb₂ : ∀ a, off₂ a + S64x1.size a ≤ S512x1.size a} {inb₃ : ∀ a, off₂ a + S64x512.size a ≤ S512x512.size a} {l₁ l₂ l₃ hx hm}
    (pay : (S1x64x512.Idx → Elt F .i8) → (S64x1.Idx → Elt F .f32) → S64x512.Idx → Elt F .f32)
    (hpay : ∀ v w, pay v w = k0_pay15 (shapeCast S64x512 v shapeCasts_S1x64x512_S64x512) w)
    {α : Type} {Q : α → sProp 𝕄} {k : Prog (TpuEff nD τ sig (Elt F) Λ₀ .tc) α} (R : sProp 𝕄)
    (hk : iprop(agSt m ρ K c (p.val + 1) ∗ R) ⊢ wpB c k Q) :
    iprop(agSt m ρ K c p.val ∗ R)
      ⊢ wpB c (dite P (fun h => Bind.bind (Prog.lift (.waitDma2 (s h) (σ h) (δ h) (w₁ h) (w₂ h))) fun _ =>
          Bind.bind (Prog.lift (.load agM (Rect.unit (s := S8x64x512) off S1x64x512.size inb).toLoadRect l₁)) fun v =>
          Bind.bind (Prog.lift (.load scM (Rect.unit (s := S512x1) off₂ S64x1.size inb₂).toLoadRect l₂)) fun w =>
          Bind.bind (Prog.lift (.load oM (Rect.unit (s := S512x512) off₂ S64x512.size inb₃).toLoadRect l₃)) fun _ =>
          Bind.bind (Prog.lift (.store oM (Rect.unit (s := S512x512) off₂ S64x512.size inb₃) (pay v w) Finset.univ hx hm)) fun _ => k)
          fun _ => k) Q := by
  subst hoff₂
  by_cases h : P
  · rw [dif_pos h]
    have hne := hP.mp h
    refine BIBase.Entails.trans ?_ (show wpB c (.op (.waitDma2 (s h) (σ h) (δ h) (w₁ h) (w₂ h)) fun _ =>
        .op (.load agM (Rect.unit (s := S8x64x512) off S1x64x512.size inb).toLoadRect l₁) fun v =>
        .op (.load scM (srowR p).toLoadRect l₂) fun w =>
        .op (.load oM (rowR p).toLoadRect l₃) fun _ =>
        .op (.store oM (rowR p) (pay v w) Finset.univ hx hm) fun _ => k) Q
      ⊢ _ from Entails.of_eq rfl)
    unfold agSt
    rw [take_up hne]
    iintro ⟨⟨#Hrec, #Hlev, HO, Hsc, ⟨⟨Hc, Hat, ⟨%X, Ho⟩⟩, Hup⟩, Hdn⟩, HR⟩
    iapply (wait_step m ρ K 3 c p hne (hs h) 0 (mayWait_nil c _)) $$ [HO Hc Hat]
    · isplitr; · iexact Hrec
      isplitr; · iexact Hlev
      isplitl [HO]; · iexact HO
      isplitl [Hc]; · iexact Hc
      iexact Hat
    iintro ⟨HO, Hz, Hsl⟩
    ihave Hsl := (Entails.of_eq (show dmaPay m ρ c 3 p = owns (c : Thread nD τ) (slotM agM p) fullShare (redq m ρ p) from rfl)) $$ Hsl
    iapply (load_slot c p hoff (X := redq m ρ p)) $$ Hsl
    iintro %v %hv Hsl
    iapply (load_owns c) $$ Hsc
    iintro Hsc
    iapply (load_slice c (hr := fun _ => rfl)) $$ Ho
    iintro Ho
    iapply (store_slice c (hr := fun _ => rfl)) $$ Ho
    iintro Ho
    iapply hk
    unfold agSt
    rw [put_dn hne]
    isplitr [HR]
    · isplitr; · iexact Hrec
      isplitr; · iexact Hlev
      isplitl [HO]; · iexact HO
      isplitl [Hsc]; · iexact Hsc
      isplitl [Hup]; · iexact Hup
      isplitl [Hz Hsl Ho]
      · isplitl [Hz]; · iexact Hz
        isplitl [Hsl]; · iexact Hsl
        rw [hpay, hv]; iexact Ho
      iexact Hdn
    iexact HR
  · rw [dif_neg h]
    have hc : p = c := by by_contra hne; exact h (hP.mpr hne)
    subst hc
    refine (Entails.of_eq ?_).trans hk
    unfold agSt
    rw [up_self, dn_self]

/-! ## Waits for the device's own sends -/

/-- The blocks sent to the devices before `k` are back. -/
def outSt (K : Dev nD × Option (Fin 32) → ℕ) (c : Dev nD) (k : ℕ) : sProp 𝕄 :=
  iprop(records m ρ K ∗ levAts L lv ∗ owing c 0
    ∗ (bigSep (up c k) fun p => iprop(cred (tallyAt (dcell 0 c p) () N) ∗ atPos ER (dcell 0 c p) 0 ∅ 0
        ∗ cred (tallyAt (dcell 2 c p) () N) ∗ atPos ER (dcell 2 c p) 0 ∅ 0))
    ∗ bigSep (dn c k) fun p => iprop(semVal (dcell 0 c p) 0 ∗ semVal (dcell 2 c p) 0
        ∗ owns (c : Thread nD τ) (rowM p) fullShare (prow m ρ c p) ∗ owns (c : Thread nD τ) rdM (shareTok fullShare 8 p) (redq m ρ c)))

theorem out_block (K : Dev nD × Option (Fin 32) → ℕ) (c p : Dev nD) {P : Prop} [Decidable P] (hP : P ↔ p ≠ c)
    (s₁ s₂ : P → DmaSem sig) (hs₁ : ∀ h, s₁ h = dsem (six 0 p)) (hs₂ : ∀ h, s₂ h = dsem (six 2 p))
    (σ₁ δ₁ σ₂ δ₂ : P → Memref sig .tc .vmem S64x512 .i8)
    {w₁ : ∀ h, (σ₁ h).view.WordExact} {w₂ : ∀ h, (δ₁ h).view.WordExact} {w₃ : ∀ h, (σ₂ h).view.WordExact} {w₄ : ∀ h, (δ₂ h).view.WordExact}
    {α : Type} {Q : α → sProp 𝕄} {k : Prog (TpuEff nD τ sig (Elt F) Λ₀ .tc) α} (R : sProp 𝕄)
    (hk : iprop(outSt m ρ K c (p.val + 1) ∗ R) ⊢ wpB c k Q) :
    iprop(outSt m ρ K c p.val ∗ R)
      ⊢ wpB c (dite P (fun h => Bind.bind (Prog.lift (.waitDma2 (s₁ h) (σ₁ h) (δ₁ h) (w₁ h) (w₂ h))) fun _ =>
          Bind.bind (Prog.lift (.waitDma2 (s₂ h) (σ₂ h) (δ₂ h) (w₃ h) (w₄ h))) fun _ => k)
          fun _ => k) Q := by
  by_cases h : P
  · rw [dif_pos h]
    have hne := hP.mp h
    refine BIBase.Entails.trans ?_ (show wpB c (.op (.waitDma2 (s₁ h) (σ₁ h) (δ₁ h) (w₁ h) (w₂ h)) fun _ =>
        .op (.waitDma2 (s₂ h) (σ₂ h) (δ₂ h) (w₃ h) (w₄ h)) fun _ => k) Q
      ⊢ _ from Entails.of_eq rfl)
    unfold outSt
    rw [take_up hne]
    iintro ⟨⟨#Hrec, #Hlev, HO, ⟨⟨Hc, Hat, Hc₂, Hat₂⟩, Hup⟩, Hdn⟩, HR⟩
    iapply (wait_step m ρ K 0 c p hne (hs₁ h) 0 (mayWait_nil c _)) $$ [HO Hc Hat]
    · isplitr; · iexact Hrec
      isplitr; · iexact Hlev
      isplitl [HO]; · iexact HO
      isplitl [Hc]; · iexact Hc
      iexact Hat
    iintro ⟨HO, Hz, Hp⟩
    ihave Hp := (Entails.of_eq (show dmaPay m ρ c 0 p = owns (c : Thread nD τ) (rowM p) fullShare (prow m ρ c p) from rfl)) $$ Hp
    iapply (wait_step m ρ K 2 c p hne (hs₂ h) 0 (mayWait_nil c _)) $$ [HO Hc₂ Hat₂]
    · isplitr; · iexact Hrec
      isplitr; · iexact Hlev
      isplitl [HO]; · iexact HO
      isplitl [Hc₂]; · iexact Hc₂
      iexact Hat₂
    iintro ⟨HO, Hz₂, Hp₂⟩
    ihave Hp₂ := (Entails.of_eq (show dmaPay m ρ c 2 p = owns (c : Thread nD τ) rdM (shareTok fullShare 8 p) (redq m ρ c) from rfl)) $$ Hp₂
    iapply hk
    unfold outSt
    rw [put_dn hne]
    isplitr [HR]
    · isplitr; · iexact Hrec
      isplitr; · iexact Hlev
      isplitl [HO]; · iexact HO
      isplitl [Hup]; · iexact Hup
      isplitl [Hz Hz₂ Hp Hp₂]
      · isplitl [Hz]; · iexact Hz
        isplitl [Hz₂]; · iexact Hz₂
        isplitl [Hp]; · iexact Hp
        iexact Hp₂
      iexact Hdn
    iexact HR
  · rw [dif_neg h]
    have hc : p = c := by by_contra hne; exact h (hP.mpr hne)
    subst hc
    refine (Entails.of_eq ?_).trans hk
    unfold outSt
    rw [up_self, dn_self]

end Cert.KernelIdeal.Run
-- ==== Proof.Parts.lean ====
/-
# The kernel's six parts and its end

Each theorem takes one printed part from the state before it to the state after it. The guarded visits to the
eight peers are the step lemmas of `Blocks`, one line for each visit the program prints.
-/
module
public import proofs.«01_k».proof.Proof.Blocks

@[expose] public section

set_option backward.proofsInPublic true

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536

/-- A load of a whole buffer reads its contents. -/
theorem load_whole (c : Dev nD) {s : Shape} {e : EltTy} {M : Memref sig .tc .vmem s e} {off : Fin s.rank → ℕ} (hz : off = fun _ => 0)
    {inb : ∀ a, off a + s.size a ≤ s.size a} {hl : M.view.LoadsAt (Rect.unit off s.size inb).toLoadRect}
    {α : Type} {Q : α → sProp 𝕄} {k : (s.Idx → Elt F e) → Prog (TpuEff nD τ sig (Elt F) Λ₀ .tc) α} {q : PosShare TreeShare} {X : s.Idx → Elt F e} :
    (owns (c : Thread nD τ) M q X : sProp 𝕄)
      ⊢ iprop((owns (c : Thread nD τ) M q X -∗ wpB c (k X) Q) -∗ wpB c (.op (.load M (Rect.unit off s.size inb).toLoadRect hl) k) Q) := by
  have h := load_owns (F := F) c (M := M) (r := Rect.unit off s.size inb) (hl := hl) (Q := Q) (k := k) (q := q) (X := X)
  rwa [emb_unit_zero hz] at h

theorem ret_intro (c : Dev nD) {α : Type} {Q : α → sProp 𝕄} (x : α) : Q x ⊢ wpB (F := F) c (Pure.pure x) Q :=
  BIBase.Entails.trans fupd_intro (Entails.of_eq (wp_ret ..).symm)

theorem zero3 : (![0, 0, 0] : Fin 3 → ℕ) = fun _ => 0 := by decide

/-! ## Signals and the barrier -/

theorem bar_wait (K : Dev nD × Option (Fin 32) → ℕ) (c : Dev nD) {α : Type} {Q : α → sProp 𝕄} {k : Prog (TpuEff nD τ sig (Elt F) Λ₀ .tc) α} (R : sProp 𝕄)
    (hk : iprop((records m ρ K ∗ owing c (oAg c 0 + oRs c 0) ∗ semVal (barCell c) 0 ∗ bigSep (up c 0) (barPay c)) ∗ R) ⊢ wpB c k Q) :
    iprop(sigSt m ρ K c 8 ∗ (levAts L lv ∗ cred (tallyAt (barCell c) () 7) ∗ atPos ER (barCell c) 0 ∅ 0) ∗ R)
      ⊢ wpB c (Bind.bind (semWaitWord barS 7#32) fun _ => k) Q := by
  refine BIBase.Entails.trans ?_ (show wpB c (.op (.semWait barS (7#32).toInt) fun _ => k) Q ⊢ _ from Entails.of_eq rfl)
  unfold sigSt owing oBar
  rw [up_last, Finset.sum_empty, add_zero, bigSep_empty]
  iintro ⟨⟨#Hrec, ⟨%W, HO⟩, -⟩, ⟨#Hlev, Hc, Hat⟩, HR⟩
  ihave #Hi := (rec_inv m ρ K (c, none)) $$ Hrec
  iapply (Rounds.wp_wait_rest_token 𝒱₀ ER (ring m ρ) (c : Thread nD τ) none (κ := K (c, none))
      (wpE_semWait_eq 𝒱₀ (c : Thread nD τ) none Set.univ) (Set.mem_univ _) () (O := oAg c 0 + oRs c 0) (W := W) (R := 0) (m := 0) (T := ∅)
      (by rw [expect_bar]; decide)) $$ [Hc HO Hat]
  · isplitr; · iexact Hi
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (ring m ρ) (Set.mem_univ (K (c, none))) (fun h => h) (R := 0 + 1) (duties_later m ρ (barCell c))) $$ [Hat] with Hz
  · isplitr; · iexact Hi
    iexact Hat
  iapply hk
  isplitr [HR]
  · isplitr; · iexact Hrec
    isplitl [HO]; · unfold owing; iexists _; iexact HO
    isplitl [Hz]; · iexact Hz
    iexact Hp
  iexact HR

theorem part1_wp (K : Dev nD × Option (Fin 32) → ℕ) (c : Dev nD) {Q : (Σ' (d0 : Dev nD), BitVec 32) → sProp 𝕄} (R : sProp 𝕄)
    (hk : iprop((records m ρ K ∗ owing c (oAg c 0 + oRs c 0) ∗ semVal (barCell c) 0 ∗ bigSep (up c 0) (barPay c)) ∗ R) ⊢ Q ⟨c, me c⟩) :
    iprop(sigSt m ρ K c 0 ∗ (levAts L lv ∗ cred (tallyAt (barCell c) () 7) ∗ atPos ER (barCell c) 0 ∅ 0) ∗ R)
      ⊢ wpB c (k0_part1 (F := F) xM (Memref.isWhole_whole _) iM (Memref.isWhole_whole _) wM (Memref.isWhole_whole _) oM (Memref.isWhole_whole _) pM (Memref.isWhole_whole _) scM (Memref.isWhole_whole _) rsM (Memref.isWhole_whole _) rdM (Memref.isWhole_whole _) agM (Memref.isWhole_whole _)
        cc0_scratch5 cc0_scratch6 cc0_scratch7 cc0_scratch8) Q := by
  rw [k0_part1_eq_skeleton]; unfold k0_part1_skel
  refine BIBase.Entails.trans ?_ (Entails.of_eq (wp_deviceId ..).symm)
  refine sig_block m ρ K c (0 : Dev nD) (by clear hk; revert c; decide) _ (fun _ => rfl) _ ?_
  refine sig_block m ρ K c (1 : Dev nD) (by clear hk; revert c; decide) _ (fun _ => rfl) _ ?_
  refine sig_block m ρ K c (2 : Dev nD) (by clear hk; revert c; decide) _ (fun _ => rfl) _ ?_
  refine sig_block m ρ K c (3 : Dev nD) (by clear hk; revert c; decide) _ (fun _ => rfl) _ ?_
  refine sig_block m ρ K c (4 : Dev nD) (by clear hk; revert c; decide) _ (fun _ => rfl) _ ?_
  refine sig_block m ρ K c (5 : Dev nD) (by clear hk; revert c; decide) _ (fun _ => rfl) _ ?_
  refine sig_block m ρ K c (6 : Dev nD) (by clear hk; revert c; decide) _ (fun _ => rfl) _ ?_
  refine sig_block m ρ K c (7 : Dev nD) (by clear hk; revert c; decide) _ (fun _ => rfl) _ ?_
  refine bar_wait m ρ K c R ?_
  exact hk.trans (ret_intro c _)

/-! ## The quantised contribution -/

theorem part2_wp (c : Dev nD) {Q : (Σ' (v68 : FVec F S512x512 .f32), F .f32) → sProp 𝕄} (R : sProp 𝕄)
    (hk : iprop((owns (c : Thread nD τ) xM fullShare (xst m ρ c) ∗ owns (c : Thread nD τ) iM fullShare (ist m ρ c) ∗ owns (c : Thread nD τ) wM fullShare (wst m ρ c)
        ∗ owns (c : Thread nD τ) scM fullShare (scl m ρ c)) ∗ R)
      ⊢ Q ⟨k0_pay4 (me c) (xst m ρ c) (ist m ρ c) (ist m ρ c) (wst m ρ c), Scalar.ofBits .f32 0xC2FE0000#32⟩) :
    iprop((owns (c : Thread nD τ) xM fullShare (xst m ρ c) ∗ owns (c : Thread nD τ) iM fullShare (ist m ρ c) ∗ owns (c : Thread nD τ) wM fullShare (wst m ρ c)
        ∗ ∃ f, owns (c : Thread nD τ) scM fullShare f) ∗ R)
      ⊢ wpB c (k0_part2 (F := F) xM (Memref.isWhole_whole _) iM (Memref.isWhole_whole _) wM (Memref.isWhole_whole _) oM (Memref.isWhole_whole _) pM (Memref.isWhole_whole _) scM (Memref.isWhole_whole _) rsM (Memref.isWhole_whole _) rdM (Memref.isWhole_whole _) agM (Memref.isWhole_whole _)
        cc0_scratch5 cc0_scratch6 cc0_scratch7 cc0_scratch8 (me c)) Q := by
  rw [k0_part2_eq_skeleton]; unfold k0_part2_skel
  iintro ⟨⟨Hx, Hi, Hw, ⟨%f, Hs⟩⟩, HR⟩
  iapply (load_whole c zero2) $$ Hx
  iintro Hx
  iapply (load_whole c zero2) $$ Hs
  iintro Hs
  iapply (store_sc c) $$ Hs
  iintro Hs
  iapply (load_whole c zero2) $$ Hi
  iintro Hi
  iapply (load_whole c zero2) $$ Hi
  iintro Hi
  iapply (load_whole c zero3) $$ Hw
  iintro Hw
  iapply (ret_intro c _)
  iapply hk
  isplitr [HR]
  · isplitl [Hx]; · iexact Hx
    isplitl [Hi]; · iexact Hi
    isplitl [Hw]; · iexact Hw
    iexact Hs
  iexact HR

end Cert.KernelIdeal.Run
-- ==== Proof.Split.lean ====
/-
# Buffers taken apart and put together

The contribution and the output split into eight blocks of rows, a landing buffer into eight slots, the sum into
eight read shares and a remainder; each family is one device's own part and the peers'.
-/
module
public import proofs.«01_k».proof.Proof.Blocks

@[expose] public section

set_option backward.proofsInPublic true

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A family over all devices is the device's own part and the peers'. -/
theorem all_split (c : Dev nD) (Φ : Dev nD → sProp 𝕄) : bigSep Finset.univ Φ = iprop(Φ c ∗ bigSep (up c 0) Φ) := by
  rw [up_zero]
  conv_lhs => rw [← Finset.insert_erase (Finset.mem_univ c), bigSep_insert (Finset.notMem_erase c _)]
  rfl
theorem all_split_dn (c : Dev nD) (Φ : Dev nD → sProp 𝕄) : bigSep Finset.univ Φ = iprop(Φ c ∗ bigSep (dn c 8) Φ) := by
  rw [dn_last, ← up_zero, all_split c]

/-- Two families over one set are the family of the pairs. -/
theorem zip_up (S : Finset (Dev nD)) (Φ Ψ : Dev nD → sProp 𝕄) : iprop(bigSep S Φ ∗ bigSep S Ψ) ⊢ bigSep S fun p => iprop(Φ p ∗ Ψ p) :=
  Entails.of_eq (bigSep_sep S Φ Ψ).symm
theorem unzip_up (S : Finset (Dev nD)) (Φ Ψ : Dev nD → sProp 𝕄) : (bigSep S fun p => iprop(Φ p ∗ Ψ p)) ⊢ iprop(bigSep S Φ ∗ bigSep S Ψ) :=
  Entails.of_eq (bigSep_sep S Φ Ψ)

theorem mem_rowR {p : Dev nD} {i : S512x512.Idx} : i ∈ (rowR p).set ↔ 64 * p.val ≤ (i 0).val ∧ (i 0).val < 64 * p.val + 64 := by
  rw [Rect.mem_set_unit]
  constructor
  · intro h; exact h 0
  · intro h a
    fin_cases a
    · exact h
    · exact ⟨Nat.zero_le _, by simpa using (i 1).isLt⟩

theorem rows_disj (p q : Dev nD) (h : p ≠ q) : Disjoint (rowR p).set (rowR q).set := by
  rw [Finset.disjoint_left]
  intro i h1 h2
  rw [mem_rowR] at h1 h2
  exact h (Fin.ext (by omega))

theorem rows_cov : (Finset.univ : Finset (Dev nD)).biUnion (fun p => (rowR p).set) = Finset.univ := by
  ext i
  have h0 : (i 0).val < 512 := (i 0).isLt
  simp only [Finset.mem_biUnion, Finset.mem_univ, true_and, iff_true]
  exact ⟨⟨(i 0).val / 64, by show _ < 8; omega⟩, mem_rowR.mpr ⟨by show 64 * ((i 0).val / 64) ≤ _; omega, by show _ < 64 * ((i 0).val / 64) + 64; omega⟩⟩

theorem mem_slotR {p : Dev nD} {i : S8x64x512.Idx} : i ∈ (slotR p).set ↔ (i 0).val = p.val := by
  rw [Rect.mem_set_unit]
  constructor
  · intro h
    have h' : p.val ≤ (i 0).val ∧ (i 0).val < p.val + 1 := h 0
    omega
  · intro h a
    fin_cases a
    · exact ⟨h.ge, by show (i 0).val < p.val + 1; omega⟩
    · exact ⟨Nat.zero_le _, by simpa using (i 1).isLt⟩
    · exact ⟨Nat.zero_le _, by simpa using (i 2).isLt⟩

/-- Blocks of rows: a whole array owned is its eight blocks owned, and back. -/
theorem rows_split (c : Dev nD) {e : EltTy} (M : Memref sig .tc .vmem S512x512 e) (X : S512x512.Idx → Elt F e) :
    (owns (c : Thread nD τ) M fullShare X : sProp 𝕄)
      ⊢ bigSep Finset.univ fun p : Dev nD => owns (c : Thread nD τ) (M.slice (rowR p) (fun _ => rfl)) fullShare fun j => X ((rowR p).emb j) := by
  have h := owns_rects (Ix := Unit) (Name := ℕ) (U := UU) (Lvl := ℕ) (c : Thread nD τ) M fullShare (T := Dev nD) rowR (fun _ _ => rfl) rows_disj rows_cov X
  exact h

theorem slot_set (M : Memref sig .tc .vmem S8x64x512 .i8) (p : Dev nD) : (slotM M p).view.set = M.view.setOn (slotR p).set := by
  rw [show (slotM M p).view.set = (M.slice (slotR p) (fun _ => rfl)).view.set from View.set_reshape _ _]
  exact View.set_slice _ _

theorem slots_disj (M : Memref sig .tc .vmem S8x64x512 .i8) (p q : Dev nD) (h : p ≠ q) : Disjoint (slotM M p).view.set (slotM M q).view.set := by
  rw [slot_set, slot_set]
  refine (Finset.disjoint_map _).mpr (Finset.disjoint_left.mpr fun i h1 h2 => h (Fin.ext ?_))
  rw [mem_slotR] at h1 h2
  omega

theorem slots_cov (M : Memref sig .tc .vmem S8x64x512 .i8) : (Finset.univ : Finset (Dev nD)).biUnion (fun p => (slotM M p).view.set) = M.view.set := by
  ext i
  rw [Finset.mem_biUnion]
  constructor
  · rintro ⟨p, -, h⟩; rw [slot_set] at h; exact View.setOn_subset_set _ _ h
  · intro h
    obtain ⟨j, -, rfl⟩ := Finset.mem_map.mp h
    refine ⟨⟨(j 0).val, (j 0).isLt⟩, Finset.mem_univ _, ?_⟩
    rw [slot_set]
    exact Finset.mem_map_of_mem _ (mem_slotR.mpr rfl)

/-- A landing buffer at any contents is its eight slots at any contents, and back. -/
theorem slots_split (c : Dev nD) (M : Memref sig .tc .vmem S8x64x512 .i8) (X : S8x64x512.Idx → Elt F .i8) :
    (owns (c : Thread nD τ) M fullShare X : sProp 𝕄) ⊢ bigSep Finset.univ fun p : Dev nD => slotAny (F := F) M c p := by
  unfold owns
  iintro ⟨%f, -, H⟩
  have h : (M.view.loc (c : Thread nD τ) ↦[M.view.set]{fullShare} f : sProp 𝕄) ⊢ bigSep Finset.univ fun p : Dev nD => slotAny (F := F) M c p := by
    rw [← slots_cov M, pointsTo_biUnion _ _ (fun p _ q _ h => slots_disj M p q h)]
    exact bigSep_mono fun p _ => (show (M.view.loc (c : Thread nD τ) ↦[(slotM M p).view.set]{fullShare} f : sProp 𝕄) ⊢ slotAny (F := F) M c p from by
      unfold slotAny; iintro H; iexists f; iexact H)
  iapply h
  iexact H

theorem slots_join (c : Dev nD) (M : Memref sig .tc .vmem S8x64x512 .i8) :
    (bigSep Finset.univ fun p : Dev nD => slotAny (F := F) M c p) ⊢ (iprop(∃ X, owns (c : Thread nD τ) M fullShare X) : sProp 𝕄) := by
  unfold slotAny
  have : Nonempty (Elt F .i8) := ⟨(0 : BitVec 8)⟩
  iintro H
  ihave H := (bigSep_exists_pi (Y := fun _ => Buf (Elt F) (M.view.loc (c : Thread nD τ))) Finset.univ fun (p : Dev nD) f => ((slotM M p).view.loc (c : Thread nD τ) ↦[(slotM M p).view.set]{fullShare} f : sProp 𝕄)) $$ H
  icases H with ⟨%fs, H⟩
  ihave H := (pointsTo_biUnion_join (ℓ := M.view.loc (c : Thread nD τ)) Finset.univ (fun p : Dev nD => (slotM M p).view.set) fs (fs c) (fun p _ q _ h => slots_disj M p q h)) $$ H
  icases H with ⟨%g, -, H⟩
  rw [slots_cov]
  iexists _
  iapply (owns_intro (c : Thread nD τ) M fullShare g)
  iexact H

/-- Blocks of rows put together. -/
theorem rows_join (c : Dev nD) {e : EltTy} (M : Memref sig .tc .vmem S512x512 e) (X : S512x512.Idx → Elt F e) :
    (bigSep Finset.univ fun p : Dev nD => owns (c : Thread nD τ) (M.slice (rowR p) (fun _ => rfl)) fullShare fun j => X ((rowR p).emb j))
      ⊢ (owns (c : Thread nD τ) M fullShare X : sProp 𝕄) := by
  have h := owns_of_rects (Ix := Unit) (Name := ℕ) (U := UU) (Lvl := ℕ) (c : Thread nD τ) M fullShare (T := Dev nD) rowR (fun _ _ => rfl) rows_disj rows_cov X
  exact h

/-- A slot owned at known contents is the slot at any. -/
theorem slot_forget (c p : Dev nD) (M : Memref sig .tc .vmem S8x64x512 .i8) (X : S64x512.Idx → Elt F .i8) :
    (owns (c : Thread nD τ) (slotM M p) fullShare X : sProp 𝕄) ⊢ slotAny (F := F) M c p := by
  unfold owns slotAny
  iintro ⟨%f, -, H⟩; iexists f; iexact H

/-- The sum's buffer as a remainder and eight read shares, and back. -/
theorem toks_split (c : Dev nD) (X : S64x512.Idx → Elt F .i8) :
    (owns (c : Thread nD τ) rdM fullShare X : sProp 𝕄)
      ⊢ iprop(owns (c : Thread nD τ) rdM (shareDrop fullShare 8) X ∗ bigSep Finset.univ fun p : Dev nD => owns (c : Thread nD τ) rdM (shareTok fullShare 8 p) X) := by
  simp only [rdM, owns_whole]
  exact (pointsTo_toks fullShare 8).1
theorem toks_join (c : Dev nD) (X : S64x512.Idx → Elt F .i8) :
    iprop(owns (c : Thread nD τ) rdM (shareDrop fullShare 8) X ∗ bigSep Finset.univ fun p : Dev nD => owns (c : Thread nD τ) rdM (shareTok fullShare 8 p) X)
      ⊢ (owns (c : Thread nD τ) rdM fullShare X : sProp 𝕄) := by
  simp only [rdM, owns_whole]
  exact (pointsTo_toks fullShare 8).2

end Cert.KernelIdeal.Run
-- ==== Proof.PartSend.lean ====
/-
# The reduce-scatter's sends

Each theorem takes one printed part from the state before it to the state after it; the guarded visits to the
eight peers are the step lemmas of `Blocks`, one line for each visit the program prints.
-/
module
public import proofs.«01_k».proof.Proof.Parts
public import proofs.«01_k».proof.Proof.Split

@[expose] public section

set_option backward.proofsInPublic true

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536
set_option maxHeartbeats 2000000

/-- The rows in hand and what the peers handed over make the sends' first state. -/
theorem rs_start (K : Dev nD × Option (Fin 32) → ℕ) (c : Dev nD) :
    iprop(records m ρ K ∗ owing c (oAg c 0 + oRs c 0) ∗ owns (c : Thread nD τ) pM fullShare (partq m ρ c)
        ∗ bigSep (up c 0) fun p => iprop(slotAny rsM p c ∗ dutyTok ER (dcell 0 c p) 0 0 ∗ dutyTok ER (dcell 1 p c) 0 0))
      ⊢ iprop(sendSt m ρ K c 0 1 (oAg c 0) rowM (fun _ => fullShare) (prow m ρ c) (slotM rsM c) 0 ∗ owns (c : Thread nD τ) (rowM c) fullShare (prow m ρ c c)) := by
  unfold sendSt oRs
  rw [dn_zero, bigSep_empty]
  iintro ⟨#Hrec, HO, Hp, Hup⟩
  ihave Hp := (rows_split c pM (partq m ρ c)) $$ Hp
  ihave Hp := (Entails.of_eq (all_split c _)) $$ Hp
  icases Hp with ⟨Hc, Hp⟩
  isplitr [Hc]
  · isplitr; · iexact Hrec
    isplitl [HO]; · iexact HO
    isplitl [Hp Hup]
    · iapply (zip_up (up c 0) (fun p => owns (c : Thread nD τ) (rowM p) fullShare (prow m ρ c p)) _)
      isplitl [Hp]; · iexact Hp
      iexact Hup
    · iempintro
  · iexact Hc

theorem part3_wp (K : Dev nD × Option (Fin 32) → ℕ) (c : Dev nD) {Q : PUnit → sProp 𝕄} (R : sProp 𝕄)
    (hk : iprop((sendSt m ρ K c 0 1 (oAg c 0) rowM (fun _ => fullShare) (prow m ρ c) (slotM rsM c) 8
        ∗ owns (c : Thread nD τ) (rowM c) fullShare (prow m ρ c c)) ∗ R) ⊢ Q ⟨⟩) :
    iprop((records m ρ K ∗ owing c (oAg c 0 + oRs c 0) ∗ (∃ f, owns (c : Thread nD τ) pM fullShare f)
        ∗ bigSep (up c 0) fun p => iprop(slotAny rsM p c ∗ dutyTok ER (dcell 0 c p) 0 0 ∗ dutyTok ER (dcell 1 p c) 0 0)) ∗ R)
      ⊢ wpB c (k0_part3 (F := F) xM (Memref.isWhole_whole _) iM (Memref.isWhole_whole _) wM (Memref.isWhole_whole _) oM (Memref.isWhole_whole _) pM (Memref.isWhole_whole _) scM (Memref.isWhole_whole _) rsM (Memref.isWhole_whole _) rdM (Memref.isWhole_whole _) agM (Memref.isWhole_whole _)
        cc0_scratch5 cc0_scratch6 cc0_scratch7 cc0_scratch8 c (me c)
          (k0_pay4 (me c) (xst m ρ c) (ist m ρ c) (ist m ρ c) (wst m ρ c)) (Scalar.ofBits .f32 0xC2FE0000#32)) Q := by
  rw [k0_part3_eq_skeleton]; unfold k0_part3_skel
  iintro ⟨⟨#Hrec, HO, ⟨%f, Hp⟩, Hup⟩, HR⟩
  iapply (load_whole c zero2) $$ Hp
  iintro Hp
  iapply (store_p c) $$ Hp
  iintro Hp
  ihave Hs := (rs_start m ρ K c) $$ [HO Hp Hup]
  · isplitr; · iexact Hrec
    isplitl [HO]; · iexact HO
    isplitl [Hp]; · iexact Hp
    iexact Hup
  icases Hs with ⟨Hs, Hc⟩
  iapply (show iprop(sendSt m ρ K c 0 1 (oAg c 0) rowM (fun _ => fullShare) (prow m ρ c) (slotM rsM c) 0
      ∗ (owns (c : Thread nD τ) (rowM c) fullShare (prow m ρ c c) ∗ R)) ⊢ _ from ?_) $$ [Hs Hc HR]
  refine send_block m ρ K c (0 : Dev nD) 0 1 (oAg c 0) rowM (fun _ => fullShare) (prow m ρ c) (slotM rsM c) (fun _ => rfl) (fun _ => rfl) (by clear hk; revert c; decide)
    _ (fun _ => rfl) _ _ (fun _ => rfl) (fun _ => slot_at rsM c (k0_off2_eq c) _) _ _ (fun _ => sem_at0 0 rfl _) (fun _ => sem_at1 c (k0_off1_eq c) _) _ ?_
  refine send_block m ρ K c (1 : Dev nD) 0 1 (oAg c 0) rowM (fun _ => fullShare) (prow m ρ c) (slotM rsM c) (fun _ => rfl) (fun _ => rfl) (by clear hk; revert c; decide)
    _ (fun _ => rfl) _ _ (fun _ => rfl) (fun _ => slot_at rsM c (k0_off4_eq c) _) _ _ (fun _ => sem_at0 1 rfl _) (fun _ => sem_at1 c (k0_off3_eq c) _) _ ?_
  refine send_block m ρ K c (2 : Dev nD) 0 1 (oAg c 0) rowM (fun _ => fullShare) (prow m ρ c) (slotM rsM c) (fun _ => rfl) (fun _ => rfl) (by clear hk; revert c; decide)
    _ (fun _ => rfl) _ _ (fun _ => rfl) (fun _ => slot_at rsM c (k0_off6_eq c) _) _ _ (fun _ => sem_at0 2 rfl _) (fun _ => sem_at1 c (k0_off5_eq c) _) _ ?_
  refine send_block m ρ K c (3 : Dev nD) 0 1 (oAg c 0) rowM (fun _ => fullShare) (prow m ρ c) (slotM rsM c) (fun _ => rfl) (fun _ => rfl) (by clear hk; revert c; decide)
    _ (fun _ => rfl) _ _ (fun _ => rfl) (fun _ => slot_at rsM c (k0_off8_eq c) _) _ _ (fun _ => sem_at0 3 rfl _) (fun _ => sem_at1 c (k0_off7_eq c) _) _ ?_
  refine send_block m ρ K c (4 : Dev nD) 0 1 (oAg c 0) rowM (fun _ => fullShare) (prow m ρ c) (slotM rsM c) (fun _ => rfl) (fun _ => rfl) (by clear hk; revert c; decide)
    _ (fun _ => rfl) _ _ (fun _ => rfl) (fun _ => slot_at rsM c (k0_off10_eq c) _) _ _ (fun _ => sem_at0 4 rfl _) (fun _ => sem_at1 c (k0_off9_eq c) _) _ ?_
  refine send_block m ρ K c (5 : Dev nD) 0 1 (oAg c 0) rowM (fun _ => fullShare) (prow m ρ c) (slotM rsM c) (fun _ => rfl) (fun _ => rfl) (by clear hk; revert c; decide)
    _ (fun _ => rfl) _ _ (fun _ => rfl) (fun _ => slot_at rsM c (k0_off12_eq c) _) _ _ (fun _ => sem_at0 5 rfl _) (fun _ => sem_at1 c (k0_off11_eq c) _) _ ?_
  refine send_block m ρ K c (6 : Dev nD) 0 1 (oAg c 0) rowM (fun _ => fullShare) (prow m ρ c) (slotM rsM c) (fun _ => rfl) (fun _ => rfl) (by clear hk; revert c; decide)
    _ (fun _ => rfl) _ _ (fun _ => rfl) (fun _ => slot_at rsM c (k0_off14_eq c) _) _ _ (fun _ => sem_at0 6 rfl _) (fun _ => sem_at1 c (k0_off13_eq c) _) _ ?_
  refine send_block m ρ K c (7 : Dev nD) 0 1 (oAg c 0) rowM (fun _ => fullShare) (prow m ρ c) (slotM rsM c) (fun _ => rfl) (fun _ => rfl) (by clear hk; revert c; decide)
    _ (fun _ => rfl) _ _ (fun _ => rfl) (fun _ => slot_at rsM c (k0_off16_eq c) _) _ _ (fun _ => sem_at0 7 rfl _) (fun _ => sem_at1 c (k0_off15_eq c) _) _ ?_
  exact BIBase.Entails.trans (sep_assoc.2) (hk.trans (ret_intro c _))
  · isplitl [Hs]; · iexact Hs
    isplitl [Hc]; · iexact Hc
    iexact HR

end Cert.KernelIdeal.Run
-- ==== Proof.PartSum.lean ====
/-
# The reduce-scatter's receives and the all-gather's sends

Each theorem takes one printed part from the state before it to the state after it; the guarded visits to the
eight peers are the step lemmas of `Blocks`, one line for each visit the program prints.
-/
module
public import proofs.«01_k».proof.Proof.Parts
public import proofs.«01_k».proof.Proof.Split

@[expose] public section

set_option backward.proofsInPublic true

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536
set_option maxHeartbeats 2000000

/-- A load of a device's rows named through any offset that is theirs. -/
theorem load_at (c : Dev nD) {e : EltTy} {M : Memref sig .tc .vmem S512x512 e} {off : Fin 2 → ℕ} {p : Dev nD} (hoff : off = ![64 * p.val, 0])
    {inb : ∀ a, off a + S64x512.size a ≤ S512x512.size a} {hl : M.view.LoadsAt (Rect.unit (s := S512x512) off S64x512.size inb).toLoadRect}
    {α : Type} {Q : α → sProp 𝕄} {k : (S64x512.Idx → Elt F e) → Prog (TpuEff nD τ sig (Elt F) Λ₀ .tc) α} {q : PosShare TreeShare} {X : S64x512.Idx → Elt F e} :
    (owns (c : Thread nD τ) (M.slice (rowR p) (fun _ => rfl)) q X : sProp 𝕄)
      ⊢ iprop((owns (c : Thread nD τ) (M.slice (rowR p) (fun _ => rfl)) q X -∗ wpB c (k X) Q)
        -∗ wpB c (.op (.load M (Rect.unit (s := S512x512) off S64x512.size inb).toLoadRect hl) k) Q) := by
  subst hoff
  exact load_slice c (hr := fun _ => rfl)

/-- What the kernel stores after a receive is the sum with the block received; what it stores first is the block itself. -/
theorem pay_acc (a : S64x512.Idx → Elt F .i8) (v : S1x64x512.Idx → Elt F .i8) :
    k0_pay7 (F := F) a v = acc (F := F) a (shapeCast S64x512 v shapeCasts_S1x64x512_S64x512) := shapeCast_self _ _
theorem pay_keep (a : S64x512.Idx → Elt F .i8) : k0_pay6 (F := F) a = a := shapeCast_self _ _

/-- The scales of a device's rows named through any offset that is theirs. -/
theorem srow_at (c : Dev nD) {off : Fin 2 → ℕ} {p : Dev nD} (hoff : off = ![64 * p.val, 0]) {inb : ∀ a, off a + S64x1.size a ≤ S512x1.size a} :
    (fun j => scl m ρ c ((Rect.unit (s := S512x1) off S64x1.size inb).emb j)) = srow m ρ c p := by
  subst hoff; rfl

theorem part4_wp (K : Dev nD × Option (Fin 32) → ℕ) (c : Dev nD) {Q : BitVec 32 → sProp 𝕄} (R : sProp 𝕄)
    (hk : ∀ v, iprop((rsSt m ρ K c 8 ∗ owns (c : Thread nD τ) (rowM c) fullShare (prow m ρ c c)) ∗ R) ⊢ Q v) :
    iprop((records m ρ K ∗ levAts L lv ∗ owing c (oAg c 0) ∗ owns (c : Thread nD τ) (rowM c) fullShare (prow m ρ c c) ∗ (∃ f, owns (c : Thread nD τ) rdM fullShare f)
        ∗ bigSep (up c 0) fun p => iprop(cred (tallyAt (dcell 1 c p) () N) ∗ atPos ER (dcell 1 c p) 0 ∅ 0)) ∗ R)
      ⊢ wpB c (k0_part4 (F := F) xM (Memref.isWhole_whole _) iM (Memref.isWhole_whole _) wM (Memref.isWhole_whole _) oM (Memref.isWhole_whole _) pM (Memref.isWhole_whole _) scM (Memref.isWhole_whole _) rsM (Memref.isWhole_whole _) rdM (Memref.isWhole_whole _) agM (Memref.isWhole_whole _)
        cc0_scratch5 cc0_scratch6 cc0_scratch7 cc0_scratch8 c (me c)) Q := by
  rw [k0_part4_eq_skeleton]; unfold k0_part4_skel
  iintro ⟨⟨#Hrec, #Hlev, HO, Hc, ⟨%f, Hrd⟩, Hup⟩, HR⟩
  iapply (load_at c (off := k0_off17 c) (k0_off17_eq c)) $$ Hc
  iintro Hc
  iapply (load_whole c zero2) $$ Hrd
  iintro Hrd
  iapply (store_rd c) $$ Hrd
  iintro Hrd
  iapply (show iprop(rsSt m ρ K c 0 ∗ (owns (c : Thread nD τ) (rowM c) fullShare (prow m ρ c c) ∗ R)) ⊢ _ from ?_) $$ [HO Hrd Hup Hc HR]
  refine rs_block m ρ K c (0 : Dev nD) (by clear hk; revert c; decide) _ (fun _ => sem_at1 0 rfl _) _ _ rfl k0_pay7 (pay_acc) _ ?_
  refine rs_block m ρ K c (1 : Dev nD) (by clear hk; revert c; decide) _ (fun _ => sem_at1 1 rfl _) _ _ rfl k0_pay8 (pay_acc) _ ?_
  refine rs_block m ρ K c (2 : Dev nD) (by clear hk; revert c; decide) _ (fun _ => sem_at1 2 rfl _) _ _ rfl k0_pay9 (pay_acc) _ ?_
  refine rs_block m ρ K c (3 : Dev nD) (by clear hk; revert c; decide) _ (fun _ => sem_at1 3 rfl _) _ _ rfl k0_pay10 (pay_acc) _ ?_
  refine rs_block m ρ K c (4 : Dev nD) (by clear hk; revert c; decide) _ (fun _ => sem_at1 4 rfl _) _ _ rfl k0_pay11 (pay_acc) _ ?_
  refine rs_block m ρ K c (5 : Dev nD) (by clear hk; revert c; decide) _ (fun _ => sem_at1 5 rfl _) _ _ rfl k0_pay12 (pay_acc) _ ?_
  refine rs_block m ρ K c (6 : Dev nD) (by clear hk; revert c; decide) _ (fun _ => sem_at1 6 rfl _) _ _ rfl k0_pay13 (pay_acc) _ ?_
  refine rs_block m ρ K c (7 : Dev nD) (by clear hk; revert c; decide) _ (fun _ => sem_at1 7 rfl _) _ _ rfl k0_pay14 (pay_acc) _ ?_
  exact BIBase.Entails.trans (sep_assoc.2) ((hk _).trans (ret_intro c _))
  · isplitr [Hc HR]
    · unfold rsSt
      rw [dn_zero, bigSep_empty]
      isplitr; · iexact Hrec
      isplitr; · iexact Hlev
      isplitl [HO]; · iexact HO
      isplitl [Hrd]; · rw [pay_keep]; iexact Hrd
      isplitl [Hup]; · iexact Hup
      iempintro
    isplitl [Hc]; · iexact Hc
    iexact HR

theorem ag_start (K : Dev nD × Option (Fin 32) → ℕ) (c : Dev nD) :
    iprop(records m ρ K ∗ owing c (oAg c 0) ∗ owns (c : Thread nD τ) rdM fullShare (redq m ρ c)
        ∗ bigSep (up c 0) fun p => iprop(slotAny agM p c ∗ dutyTok ER (dcell 2 c p) 0 0 ∗ dutyTok ER (dcell 3 p c) 0 0))
      ⊢ iprop(sendSt m ρ K c 2 3 0 (fun _ => rdM) (shareTok fullShare 8) (fun _ => redq m ρ c) (slotM agM c) 0
        ∗ owns (c : Thread nD τ) rdM (shareTok fullShare 8 c) (redq m ρ c) ∗ owns (c : Thread nD τ) rdM (shareDrop fullShare 8) (redq m ρ c)) := by
  unfold sendSt oAg
  rw [dn_zero, bigSep_empty, zero_add]
  iintro ⟨#Hrec, HO, Hp, Hup⟩
  ihave Hp := (toks_split c (redq m ρ c)) $$ Hp
  icases Hp with ⟨Hd, Hp⟩
  ihave Hp := (Entails.of_eq (all_split c _)) $$ Hp
  icases Hp with ⟨Hc, Hp⟩
  isplitr [Hc Hd]
  · isplitr; · iexact Hrec
    isplitl [HO]; · iexact HO
    isplitl [Hp Hup]
    · iapply (zip_up (up c 0) (fun p => owns (c : Thread nD τ) rdM (shareTok fullShare 8 p) (redq m ρ c)) _)
      isplitl [Hp]; · iexact Hp
      iexact Hup
    · iempintro
  isplitl [Hc]; · iexact Hc
  iexact Hd

theorem part5_wp (K : Dev nD × Option (Fin 32) → ℕ) (c : Dev nD) (v : BitVec 32) {Q : (Σ' (v161 : FVec F S64x512 .f32), BitVec 32) → sProp 𝕄} (R : sProp 𝕄)
    (hk : ∀ w, iprop((sendSt m ρ K c 2 3 0 (fun _ => rdM) (shareTok fullShare 8) (fun _ => redq m ρ c) (slotM agM c) 8
        ∗ owns (c : Thread nD τ) rdM (shareTok fullShare 8 c) (redq m ρ c) ∗ owns (c : Thread nD τ) rdM (shareDrop fullShare 8) (redq m ρ c)
        ∗ owns (c : Thread nD τ) scM fullShare (scl m ρ c)) ∗ R) ⊢ Q ⟨k0_pay15 (redq m ρ c) (srow m ρ c c), w⟩) :
    iprop((records m ρ K ∗ owing c (oAg c 0) ∗ owns (c : Thread nD τ) rdM fullShare (redq m ρ c)
        ∗ (bigSep (up c 0) fun p => iprop(slotAny agM p c ∗ dutyTok ER (dcell 2 c p) 0 0 ∗ dutyTok ER (dcell 3 p c) 0 0))
        ∗ owns (c : Thread nD τ) scM fullShare (scl m ρ c)) ∗ R)
      ⊢ wpB c (k0_part5 (F := F) xM (Memref.isWhole_whole _) iM (Memref.isWhole_whole _) wM (Memref.isWhole_whole _) oM (Memref.isWhole_whole _) pM (Memref.isWhole_whole _) scM (Memref.isWhole_whole _) rsM (Memref.isWhole_whole _) rdM (Memref.isWhole_whole _) agM (Memref.isWhole_whole _)
        cc0_scratch5 cc0_scratch6 cc0_scratch7 cc0_scratch8 c (me c) v) Q := by
  rw [k0_part5_eq_skeleton]; unfold k0_part5_skel
  iintro ⟨⟨#Hrec, HO, Hrd, Hup, Hsc⟩, HR⟩
  ihave Hs := (ag_start m ρ K c) $$ [HO Hrd Hup]
  · isplitr; · iexact Hrec
    isplitl [HO]; · iexact HO
    isplitl [Hrd]; · iexact Hrd
    iexact Hup
  icases Hs with ⟨Hs, Ht, Hd⟩
  iapply (show iprop(sendSt m ρ K c 2 3 0 (fun _ => rdM) (shareTok fullShare 8) (fun _ => redq m ρ c) (slotM agM c) 0
      ∗ ((owns (c : Thread nD τ) rdM (shareTok fullShare 8 c) (redq m ρ c) ∗ owns (c : Thread nD τ) rdM (shareDrop fullShare 8) (redq m ρ c)
        ∗ owns (c : Thread nD τ) scM fullShare (scl m ρ c)) ∗ R)) ⊢ _ from ?_) $$ [Hs Ht Hd Hsc HR]
  refine send_block m ρ K c (0 : Dev nD) 2 3 0 (fun _ => rdM) (shareTok fullShare 8) (fun _ => redq m ρ c) (slotM agM c) (fun _ => rfl) (fun _ => rfl) (by clear hk; revert c; decide)
    _ (fun _ => rfl) _ _ (fun _ => rfl) (fun _ => slot_at agM c (k0_off19_eq c) _) _ _ (fun _ => sem_at2 0 rfl _) (fun _ => sem_at3 c (k0_off18_eq c) _) _ ?_
  refine send_block m ρ K c (1 : Dev nD) 2 3 0 (fun _ => rdM) (shareTok fullShare 8) (fun _ => redq m ρ c) (slotM agM c) (fun _ => rfl) (fun _ => rfl) (by clear hk; revert c; decide)
    _ (fun _ => rfl) _ _ (fun _ => rfl) (fun _ => slot_at agM c (k0_off21_eq c) _) _ _ (fun _ => sem_at2 1 rfl _) (fun _ => sem_at3 c (k0_off20_eq c) _) _ ?_
  refine send_block m ρ K c (2 : Dev nD) 2 3 0 (fun _ => rdM) (shareTok fullShare 8) (fun _ => redq m ρ c) (slotM agM c) (fun _ => rfl) (fun _ => rfl) (by clear hk; revert c; decide)
    _ (fun _ => rfl) _ _ (fun _ => rfl) (fun _ => slot_at agM c (k0_off23_eq c) _) _ _ (fun _ => sem_at2 2 rfl _) (fun _ => sem_at3 c (k0_off22_eq c) _) _ ?_
  refine send_block m ρ K c (3 : Dev nD) 2 3 0 (fun _ => rdM) (shareTok fullShare 8) (fun _ => redq m ρ c) (slotM agM c) (fun _ => rfl) (fun _ => rfl) (by clear hk; revert c; decide)
    _ (fun _ => rfl) _ _ (fun _ => rfl) (fun _ => slot_at agM c (k0_off25_eq c) _) _ _ (fun _ => sem_at2 3 rfl _) (fun _ => sem_at3 c (k0_off24_eq c) _) _ ?_
  refine send_block m ρ K c (4 : Dev nD) 2 3 0 (fun _ => rdM) (shareTok fullShare 8) (fun _ => redq m ρ c) (slotM agM c) (fun _ => rfl) (fun _ => rfl) (by clear hk; revert c; decide)
    _ (fun _ => rfl) _ _ (fun _ => rfl) (fun _ => slot_at agM c (k0_off27_eq c) _) _ _ (fun _ => sem_at2 4 rfl _) (fun _ => sem_at3 c (k0_off26_eq c) _) _ ?_
  refine send_block m ρ K c (5 : Dev nD) 2 3 0 (fun _ => rdM) (shareTok fullShare 8) (fun _ => redq m ρ c) (slotM agM c) (fun _ => rfl) (fun _ => rfl) (by clear hk; revert c; decide)
    _ (fun _ => rfl) _ _ (fun _ => rfl) (fun _ => slot_at agM c (k0_off29_eq c) _) _ _ (fun _ => sem_at2 5 rfl _) (fun _ => sem_at3 c (k0_off28_eq c) _) _ ?_
  refine send_block m ρ K c (6 : Dev nD) 2 3 0 (fun _ => rdM) (shareTok fullShare 8) (fun _ => redq m ρ c) (slotM agM c) (fun _ => rfl) (fun _ => rfl) (by clear hk; revert c; decide)
    _ (fun _ => rfl) _ _ (fun _ => rfl) (fun _ => slot_at agM c (k0_off31_eq c) _) _ _ (fun _ => sem_at2 6 rfl _) (fun _ => sem_at3 c (k0_off30_eq c) _) _ ?_
  refine send_block m ρ K c (7 : Dev nD) 2 3 0 (fun _ => rdM) (shareTok fullShare 8) (fun _ => redq m ρ c) (slotM agM c) (fun _ => rfl) (fun _ => rfl) (by clear hk; revert c; decide)
    _ (fun _ => rfl) _ _ (fun _ => rfl) (fun _ => slot_at agM c (k0_off33_eq c) _) _ _ (fun _ => sem_at2 7 rfl _) (fun _ => sem_at3 c (k0_off32_eq c) _) _ ?_
  · iintro ⟨Hs, ⟨Ht, Hd, Hsc⟩, HR⟩
    iapply (load_whole c zero2) $$ Hd
    iintro Hd
    iapply (load_owns c) $$ Hsc
    iintro Hsc
    rw [srow_at m ρ c (k0_off34_eq c)]
    iapply (ret_intro c _)
    iapply (hk _)
    isplitr [HR]
    · isplitl [Hs]; · iexact Hs
      isplitl [Ht]; · iexact Ht
      isplitl [Hd]; · iexact Hd
      iexact Hsc
    iexact HR
  · isplitl [Hs]; · iexact Hs
    isplitr [HR]
    · isplitl [Ht]; · iexact Ht
      isplitl [Hd]; · iexact Hd
      iexact Hsc
    iexact HR

end Cert.KernelIdeal.Run
-- ==== Proof.PartOut.lean ====
/-
# The all-gather's receives and the last waits

Each theorem takes one printed part from the state before it to the state after it; the guarded visits to the
eight peers are the step lemmas of `Blocks`, one line for each visit the program prints.
-/
module
public import proofs.«01_k».proof.Proof.Parts
public import proofs.«01_k».proof.Proof.Split
public import proofs.«01_k».proof.Proof.PartSum

@[expose] public section

set_option backward.proofsInPublic true

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536
set_option maxHeartbeats 2000000

/-- A store over a device's rows named through any offset that is theirs. -/
theorem store_at (c : Dev nD) {e : EltTy} {M : Memref sig .tc .vmem S512x512 e} {off : Fin 2 → ℕ} {p : Dev nD} (hoff : off = ![64 * p.val, 0])
    {inb : ∀ a, off a + S64x512.size a ≤ S512x512.size a} {w : S64x512.Idx → Elt F e}
    {hx : (M.access (Rect.unit (s := S512x512) off S64x512.size inb)).Stores Finset.univ}
    {hm : (Finset.univ : Finset (Rect.unit (s := S512x512) off S64x512.size inb).shape.Idx) = Finset.univ ∨ ∀ a, (Rect.unit (s := S512x512) off S64x512.size inb).stride a = 1}
    {α : Type} {Q : α → sProp 𝕄} {k : PUnit → Prog (TpuEff nD τ sig (Elt F) Λ₀ .tc) α} {X : S64x512.Idx → Elt F e} :
    (owns (c : Thread nD τ) (M.slice (rowR p) (fun _ => rfl)) fullShare X : sProp 𝕄)
      ⊢ iprop((owns (c : Thread nD τ) (M.slice (rowR p) (fun _ => rfl)) fullShare w -∗ wpB c (k ⟨⟩) Q)
        -∗ wpB c (.op (.store M (Rect.unit (s := S512x512) off S64x512.size inb) w Finset.univ hx hm) k) Q) := by
  subst hoff
  exact store_slice c (hr := fun _ => rfl)

/-- What the last waits use. -/
def outFam (c : Dev nD) : sProp 𝕄 :=
  bigSep (up c 0) fun p => iprop(cred (tallyAt (dcell 0 c p) () N) ∗ atPos ER (dcell 0 c p) 0 ∅ 0
    ∗ cred (tallyAt (dcell 2 c p) () N) ∗ atPos ER (dcell 2 c p) 0 ∅ 0)
/-- What the all-gather leaves: the scales, and each peer's slot and rows. -/
def agEnd (c : Dev nD) : sProp 𝕄 :=
  iprop(owns (c : Thread nD τ) scM fullShare (scl m ρ c)
    ∗ bigSep (dn c 8) fun p => iprop(semVal (dcell 3 c p) 0 ∗ owns (c : Thread nD τ) (slotM agM p) fullShare (redq m ρ p)
        ∗ owns (c : Thread nD τ) (orow p) fullShare (oblk m ρ c p)))

theorem part6_wp (K : Dev nD × Option (Fin 32) → ℕ) (c : Dev nD) (v : BitVec 32) {Q : BitVec 1 → sProp 𝕄} (R : sProp 𝕄)
    (hk : ∀ w, iprop((outSt m ρ K c 1 ∗ agEnd m ρ c ∗ owns (c : Thread nD τ) (orow c) fullShare (oblk m ρ c c)) ∗ R) ⊢ Q w) :
    iprop(outFam (F := F) c ∗ (agSt m ρ K c 0 ∗ ∃ X, owns (c : Thread nD τ) (orow c) fullShare X) ∗ R)
      ⊢ wpB c (k0_part6 (F := F) xM (Memref.isWhole_whole _) iM (Memref.isWhole_whole _) wM (Memref.isWhole_whole _) oM (Memref.isWhole_whole _) pM (Memref.isWhole_whole _) scM (Memref.isWhole_whole _) rsM (Memref.isWhole_whole _) rdM (Memref.isWhole_whole _) agM (Memref.isWhole_whole _)
        cc0_scratch5 cc0_scratch6 cc0_scratch7 cc0_scratch8 c (me c) (k0_pay15 (redq m ρ c) (srow m ρ c c)) v) Q := by
  rw [k0_part6_eq_skeleton]; unfold k0_part6_skel
  iintro ⟨Ho, ⟨Ha, ⟨%X, Hc⟩⟩, HR⟩
  iapply (load_at c (off := k0_off17 c) (k0_off17_eq c)) $$ Hc
  iintro Hc
  iapply (store_at c (off := k0_off17 c) (k0_off17_eq c)) $$ Hc
  iintro Hc
  iapply (show iprop(agSt m ρ K c 0 ∗ (outFam (F := F) c ∗ (owns (c : Thread nD τ) (orow c) fullShare (oblk m ρ c c) ∗ R))) ⊢ _ from ?_) $$ [Ho Ha Hc HR]
  refine ag_block m ρ K c (0 : Dev nD) (by clear hk; revert c; decide) _ (fun _ => sem_at3 0 rfl _) _ _ rfl rfl k0_pay16 (fun _ _ => rfl) _ ?_
  refine ag_block m ρ K c (1 : Dev nD) (by clear hk; revert c; decide) _ (fun _ => sem_at3 1 rfl _) _ _ rfl rfl k0_pay17 (fun _ _ => rfl) _ ?_
  refine ag_block m ρ K c (2 : Dev nD) (by clear hk; revert c; decide) _ (fun _ => sem_at3 2 rfl _) _ _ rfl rfl k0_pay18 (fun _ _ => rfl) _ ?_
  refine ag_block m ρ K c (3 : Dev nD) (by clear hk; revert c; decide) _ (fun _ => sem_at3 3 rfl _) _ _ rfl rfl k0_pay19 (fun _ _ => rfl) _ ?_
  refine ag_block m ρ K c (4 : Dev nD) (by clear hk; revert c; decide) _ (fun _ => sem_at3 4 rfl _) _ _ rfl rfl k0_pay20 (fun _ _ => rfl) _ ?_
  refine ag_block m ρ K c (5 : Dev nD) (by clear hk; revert c; decide) _ (fun _ => sem_at3 5 rfl _) _ _ rfl rfl k0_pay21 (fun _ _ => rfl) _ ?_
  refine ag_block m ρ K c (6 : Dev nD) (by clear hk; revert c; decide) _ (fun _ => sem_at3 6 rfl _) _ _ rfl rfl k0_pay22 (fun _ _ => rfl) _ ?_
  refine ag_block m ρ K c (7 : Dev nD) (by clear hk; revert c; decide) _ (fun _ => sem_at3 7 rfl _) _ _ rfl rfl k0_pay23 (fun _ _ => rfl) _ ?_
  · refine BIBase.Entails.trans (Q := iprop(outSt m ρ K c 0 ∗ ((agEnd m ρ c ∗ owns (c : Thread nD τ) (orow c) fullShare (oblk m ρ c c)) ∗ R))) ?_ ?_
    · unfold agSt outSt outFam agEnd
      rw [dn_zero, bigSep_empty]
      iintro ⟨⟨#Hrec, #Hlev, HO, Hsc, -, Hdn⟩, Ho, Hc, HR⟩
      isplitl [HO Ho]
      · isplitr; · iexact Hrec
        isplitr; · iexact Hlev
        isplitl [HO]; · iexact HO
        isplitl [Ho]; · iexact Ho
        iempintro
      isplitr [HR]
      · isplitl [Hsc Hdn]
        · isplitl [Hsc]; · iexact Hsc
          iexact Hdn
        iexact Hc
      iexact HR
    refine out_block m ρ K c (0 : Dev nD) (by clear hk; revert c; decide) _ _ (fun _ => sem_at0 0 rfl _) (fun _ => sem_at2 0 rfl _) _ _ _ _ _ ?_
    exact BIBase.Entails.trans sep_assoc.2 ((hk _).trans (ret_intro c _))
  · isplitl [Ha]; · iexact Ha
    isplitl [Ho]; · iexact Ho
    isplitl [Hc]; · iexact Hc
    iexact HR

end Cert.KernelIdeal.Run
-- ==== Proof.Body.lean ====
/-
# The body of the kernel on one device

The six printed parts and the last waits chained, from what a device holds when its body starts to what it holds
when the body ends.
-/
module
public import proofs.«01_k».proof.Proof.PartSend
public import proofs.«01_k».proof.Proof.PartOut

@[expose] public section

set_option backward.proofsInPublic true

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536
set_option maxHeartbeats 2000000

/-! ## The result -/

/-- The position of a row inside its device's block of 64. -/
def inRow (i : S512x512.Idx) : S64x512.Idx := fun
  | 0 => ⟨(i 0).val % 64, Nat.mod_lt _ (by decide)⟩
  | 1 => ⟨(i 1).val, (i 1).isLt⟩
/-- The device whose block a row is in. -/
def ofRow (i : S512x512.Idx) : Dev nD := ⟨(i 0).val / 64, by have h : (i 0).val < 512 := (i 0).isLt; show _ < 8; omega⟩

/-- What device `c` writes to its output: on the rows of each device, that device's sum dequantised. -/
def outv (c : Dev nD) : S512x512.Idx → Elt F .f32 := fun i => oblk m ρ c (ofRow i) (inRow i)

theorem row_val0 (p : Dev nD) (j : S64x512.Idx) : ((rowR p).emb j 0).val = 64 * p.val + (j 0).val := by
  rw [Rect.emb_apply]
  show 64 * p.val + 1 * (j 0).val = _
  omega
theorem row_val1 (p : Dev nD) (j : S64x512.Idx) : ((rowR p).emb j 1).val = (j 1).val := by
  rw [Rect.emb_apply]
  show 0 + 1 * (j 1).val = _
  omega

theorem ofRow_emb (p : Dev nD) (j : S64x512.Idx) : ofRow ((rowR p).emb j) = p := by
  have h : (j 0).val < 64 := (j 0).isLt
  refine Fin.ext ?_
  show ((rowR p).emb j 0).val / 64 = p.val
  rw [row_val0]
  omega
theorem inRow_emb (p : Dev nD) (j : S64x512.Idx) : inRow ((rowR p).emb j) = j := by
  have h : (j 0).val < 64 := (j 0).isLt
  funext a
  fin_cases a
  · refine Fin.ext ?_
    show ((rowR p).emb j 0).val % 64 = (j 0).val
    rw [row_val0]
    omega
  · refine Fin.ext ?_
    exact row_val1 p j
theorem outv_row (c p : Dev nD) : (fun j => outv m ρ c ((rowR p).emb j)) = oblk m ρ c p := by
  funext j
  unfold outv
  rw [ofRow_emb, inRow_emb]

/-! ## What a device starts with and ends with -/

/-- A memref owned at any contents. -/
abbrev anyAt (c : Dev nD) {s : Shape} {e : EltTy} (M : Memref sig .tc .vmem s e) : sProp 𝕄 := iprop(∃ X, owns (c : Thread nD τ) M fullShare X)

/-- The device's positions on its own cells, and the tokens of the duties it pays. -/
def linear (c : Dev nD) : sProp 𝕄 :=
  iprop(atPos ER (barCell c) 0 ∅ 0
    ∗ (bigSep Finset.univ fun p => atPos ER (dcell 0 c p) 0 ∅ 0) ∗ (bigSep Finset.univ fun p => atPos ER (dcell 1 c p) 0 ∅ 0)
    ∗ (bigSep Finset.univ fun p => atPos ER (dcell 2 c p) 0 ∅ 0) ∗ (bigSep Finset.univ fun p => atPos ER (dcell 3 c p) 0 ∅ 0)
    ∗ (bigSep (up c 0) fun p => dutyTok ER (barCell p) 0 c)
    ∗ (bigSep (up c 0) fun p => dutyTok ER (dcell 0 c p) 0 0) ∗ (bigSep (up c 0) fun p => dutyTok ER (dcell 1 p c) 0 0)
    ∗ (bigSep (up c 0) fun p => dutyTok ER (dcell 2 c p) 0 0) ∗ bigSep (up c 0) fun p => dutyTok ER (dcell 3 p c) 0 0)

/-- What the peers will bring it. -/
def incoming (c : Dev nD) : sProp 𝕄 :=
  iprop(cred (tallyAt (barCell c) () 7) ∗ (bigSep (up c 0) fun p => cred (tallyAt (dcell 1 c p) () N))
    ∗ bigSep (up c 0) fun p => cred (tallyAt (dcell 3 c p) () N))

/-- The scratch buffers at any contents. -/
def scratch (c : Dev nD) : sProp 𝕄 := iprop(anyAt c pM ∗ anyAt c scM ∗ anyAt c rsM ∗ anyAt c rdM ∗ anyAt c agM)
/-- The staged inputs. -/
def inputs (c : Dev nD) : sProp 𝕄 :=
  iprop(owns (c : Thread nD τ) xM fullShare (xst m ρ c) ∗ owns (c : Thread nD τ) iM fullShare (ist m ρ c) ∗ owns (c : Thread nD τ) wM fullShare (wst m ρ c))
/-- Every counter of the device at zero. -/
def zeros (c : Dev nD) : sProp 𝕄 :=
  iprop(semVal (barCell c) 0
    ∗ (bigSep Finset.univ fun p => semVal (dcell 0 c p) 0) ∗ (bigSep Finset.univ fun p => semVal (dcell 1 c p) 0)
    ∗ (bigSep Finset.univ fun p => semVal (dcell 2 c p) 0) ∗ bigSep Finset.univ fun p => semVal (dcell 3 c p) 0)

def bodyEnd (c : Dev nD) : sProp 𝕄 :=
  iprop(owing c 0 ∗ inputs m ρ c ∗ owns (c : Thread nD τ) oM fullShare (outv m ρ c) ∗ scratch c ∗ zeros c)

theorem wand_use (P Q : sProp 𝕄) : iprop(P ∗ (P -∗ Q)) ⊢ Q := by
  iintro ⟨H, Hw⟩; iapply Hw; iexact H
theorem wand_use_all {α : Type} (P : sProp 𝕄) (Φ : α → sProp 𝕄) (a : α) : iprop(P ∗ (∀ a, P -∗ Φ a)) ⊢ Φ a := by
  iintro ⟨H, Hw⟩; iapply Hw; iexact H

/-- Two programs in sequence. -/
theorem chain (c : Dev nD) {α β : Type} {p : Prog (TpuEff nD τ sig (Elt F) Λ₀ .tc) α} {k : α → Prog (TpuEff nD τ sig (Elt F) Λ₀ .tc) β} {Q : β → sProp 𝕄} :
    wpB c p (fun x => wpB c (k x) Q) ⊢ wpB c (p >>= k) Q := Entails.of_eq (wp_bind ..).symm

/-- The semaphore a device keeps for itself is never used and ends at zero. -/
theorem own_close (K : Dev nD × Option (Fin 32) → ℕ) (b : Fin 4) (c : Dev nD) :
    iprop(records m ρ K ∗ atPos ER (dcell b c c) 0 ∅ 0) ⊢ (|={Set.univ}=> semVal (dcell b c c) 0 : sProp 𝕄) := by
  iintro ⟨#Hrec, Hat⟩
  iapply (Rounds.cell_close ER (ring m ρ) (g := dcell b c c) (Set.mem_univ (K (c, some (six b c)))) (fun h => h) (R := 0) (duties_own_any m ρ b c))
  isplitr
  · iapply (rec_inv m ρ K (c, some (six b c))); iexact Hrec
  iexact Hat

/-- The slots a device hands its peers with its signals, its own two kept. -/
theorem hand_over (c : Dev nD) :
    iprop(anyAt c rsM ∗ anyAt c agM ∗ bigSep (up c 0) fun p => dutyTok ER (barCell p) 0 c)
      ⊢ iprop((bigSep (up c 0) fun p => iprop(dutyTok ER (barCell p) 0 c ∗ barPay p c)) ∗ slotAny (F := F) rsM c c ∗ slotAny agM c c) := by

  iintro ⟨⟨%X, Hrs⟩, ⟨%Y, Hag⟩, Ht⟩
  ihave Hrs := (slots_split c rsM X) $$ Hrs
  ihave Hrs := (Entails.of_eq (all_split c _)) $$ Hrs
  icases Hrs with ⟨Hr, Hrs⟩
  ihave Hag := (slots_split c agM Y) $$ Hag
  ihave Hag := (Entails.of_eq (all_split c _)) $$ Hag
  icases Hag with ⟨Hg, Hag⟩
  isplitr [Hr Hg]
  · iapply (zip_up (up c 0) (fun p => dutyTok ER (barCell p) 0 c) (fun p => barPay p c))
    isplitl [Ht]; · iexact Ht
    unfold barPay
    iapply (zip_up (up c 0) (fun p => slotAny rsM c p) (fun p => slotAny agM c p))
    isplitl [Hrs]; · iexact Hrs
    iexact Hag
  isplitl [Hr]; · iexact Hr
  iexact Hg

/-- The whole body. -/
theorem body_wp (K : Dev nD × Option (Fin 32) → ℕ) (c : Dev nD) {Q : PUnit → sProp 𝕄} :
    iprop((records m ρ K ∗ levAts L lv ∗ owing c (O₀ c) ∗ linear c ∗ incoming c ∗ inputs m ρ c ∗ anyAt c oM ∗ scratch c) ∗ (bodyEnd m ρ c -∗ Q ⟨⟩))
      ⊢ wpB c (cc0_body (F := F) xM (Memref.isWhole_whole _) iM (Memref.isWhole_whole _) wM (Memref.isWhole_whole _) oM (Memref.isWhole_whole _) pM (Memref.isWhole_whole _) scM (Memref.isWhole_whole _) rsM (Memref.isWhole_whole _) rdM (Memref.isWhole_whole _) agM (Memref.isWhole_whole _)
        cc0_scratch5 cc0_scratch6 cc0_scratch7 cc0_scratch8) Q := by
  rw [cc0_body_eq_skeleton]; unfold cc0_body_skel linear incoming inputs scratch
  iintro ⟨⟨#Hrec, #Hlev, HO, ⟨HaB, Ha0, Ha1, Ha2, Ha3, HtB, Ht0, Ht1, Ht2, Ht3⟩, ⟨HcB, Hc1, Hc3⟩, ⟨Hx, Hi, Hw⟩, ⟨%fo, Hout⟩, Hp, Hsc, Hrs, Hrd, Hag⟩, Hk⟩
  -- the device's own semaphores are closed at once
  ihave Ha0 := (Entails.of_eq (all_split c _)) $$ Ha0
  icases Ha0 with ⟨Ho0, Ha0⟩
  ihave Ha1 := (Entails.of_eq (all_split c _)) $$ Ha1
  icases Ha1 with ⟨Ho1, Ha1⟩
  ihave Ha2 := (Entails.of_eq (all_split c _)) $$ Ha2
  icases Ha2 with ⟨Ho2, Ha2⟩
  ihave Ha3 := (Entails.of_eq (all_split c _)) $$ Ha3
  icases Ha3 with ⟨Ho3, Ha3⟩
  imod (own_close m ρ K 0 c) $$ [Ho0] with Hz0
  · isplitr; · iexact Hrec
    iexact Ho0
  imod (own_close m ρ K 1 c) $$ [Ho1] with Hz1
  · isplitr; · iexact Hrec
    iexact Ho1
  imod (own_close m ρ K 2 c) $$ [Ho2] with Hz2
  · isplitr; · iexact Hrec
    iexact Ho2
  imod (own_close m ρ K 3 c) $$ [Ho3] with Hz3
  · isplitr; · iexact Hrec
    iexact Ho3
  -- the signals and the barrier
  ihave Hh := (hand_over c) $$ [Hrs Hag HtB]
  · isplitl [Hrs]; · iexact Hrs
    isplitl [Hag]; · iexact Hag
    iexact HtB
  icases Hh with ⟨HtB, Hsr, Hsg⟩
  iapply (chain c)
  iapply (part1_wp m ρ K c _ (wand_use _ _)) $$ [-]
  isplitl [HO HtB]
  · unfold sigSt O₀
    isplitr; · iexact Hrec
    isplitl [HO]; · iexact HO
    iexact HtB
  isplitl [HcB HaB]
  · isplitr; · iexact Hlev
    isplitl [HcB]; · iexact HcB
    iexact HaB
  iintro ⟨-, HO, HzB, Hpay⟩
  ihave Hpay := (show (bigSep (up c 0) (barPay c) : sProp 𝕄) ⊢ iprop(bigSep (up c 0) (fun p => slotAny rsM p c) ∗ bigSep (up c 0) (fun p => slotAny agM p c)) from
    unzip_up (up c 0) _ _) $$ Hpay
  icases Hpay with ⟨Hrs, Hag⟩
  -- the contribution
  iapply (chain c)
  iapply (part2_wp m ρ c _ (wand_use _ _)) $$ [-]
  isplitl [Hx Hi Hw Hsc]
  · isplitl [Hx]; · iexact Hx
    isplitl [Hi]; · iexact Hi
    isplitl [Hw]; · iexact Hw
    iexact Hsc
  iintro ⟨Hx, Hi, Hw, Hsc⟩
  -- the reduce-scatter's sends
  iapply (chain c)
  iapply (part3_wp m ρ K c _ (wand_use _ _)) $$ [-]
  isplitl [HO Hp Hrs Ht0 Ht1]
  · isplitr; · iexact Hrec
    isplitl [HO]; · iexact HO
    isplitl [Hp]; · iexact Hp
    iapply (zip_up (up c 0) (fun p => slotAny rsM p c) _)
    isplitl [Hrs]; · iexact Hrs
    iapply (zip_up (up c 0) (fun p => dutyTok ER (dcell 0 c p) 0 0) _)
    isplitl [Ht0]; · iexact Ht0
    iexact Ht1
  unfold sendSt
  iintro ⟨⟨-, HO, -, Hc0⟩, Hpc⟩
  rw [up_last, dn_last, ← up_zero, Finset.sum_empty, add_zero]
  -- its receives
  iapply (chain c)
  iapply (part4_wp m ρ K c _ (fun v => wand_use_all _ _ v)) $$ [-]
  isplitl [HO Hpc Hrd Hc1 Ha1]
  · isplitr; · iexact Hrec
    isplitr; · iexact Hlev
    isplitl [HO]; · iexact HO
    isplitl [Hpc]; · iexact Hpc
    isplitl [Hrd]; · iexact Hrd
    iapply (zip_up (up c 0) (fun p => cred (tallyAt (dcell 1 c p) () N)) _)
    isplitl [Hc1]; · iexact Hc1
    iexact Ha1
  unfold rsSt
  iintro %v4 ⟨⟨-, -, HO, Hrd, -, Hd1⟩, Hpc⟩
  -- the all-gather's sends
  iapply (chain c)
  iapply (part5_wp m ρ K c _ _ (fun v => wand_use_all _ _ v)) $$ [-]
  isplitl [HO Hrd Hag Ht2 Ht3 Hsc]
  · isplitr; · iexact Hrec
    isplitl [HO]; · iexact HO
    isplitl [Hrd]; · iexact Hrd
    isplitr [Hsc]
    · iapply (zip_up (up c 0) (fun p => slotAny agM p c) _)
      isplitl [Hag]; · iexact Hag
      iapply (zip_up (up c 0) (fun p => dutyTok ER (dcell 2 c p) 0 0) _)
      isplitl [Ht2]; · iexact Ht2
      iexact Ht3
    iexact Hsc
  unfold sendSt
  iintro %v5 ⟨⟨-, HO, -, Hc2⟩, Hkc, Hkd, Hsc⟩
  rw [up_last, dn_last, ← up_zero, Finset.sum_empty, add_zero]
  -- its receives, and the first of the last waits
  ihave Hout := (rows_split c oM fo) $$ Hout
  ihave Hout := (Entails.of_eq (all_split c _)) $$ Hout
  icases Hout with ⟨Hoc, Hout⟩
  iapply (chain c)
  iapply (part6_wp m ρ K c _ _ (fun v => wand_use_all _ _ v)) $$ [-]
  isplitl [Hc0 Ha0 Hc2 Ha2]
  · unfold outFam
    iapply (zip_up (up c 0) (fun p => cred (tallyAt (dcell 0 c p) () N)) _)
    isplitl [Hc0]; · iexact Hc0
    iapply (zip_up (up c 0) (fun p => atPos ER (dcell 0 c p) 0 ∅ 0) _)
    isplitl [Ha0]; · iexact Ha0
    iapply (zip_up (up c 0) (fun p => cred (tallyAt (dcell 2 c p) () N)) _)
    isplitl [Hc2]; · iexact Hc2
    iexact Ha2
  isplitl [HO Hsc Hc3 Ha3 Hout Hoc]
  · isplitr [Hoc]
    · unfold agSt
      rw [dn_zero, bigSep_empty]
      isplitr; · iexact Hrec
      isplitr; · iexact Hlev
      isplitl [HO]; · iexact HO
      isplitl [Hsc]; · iexact Hsc
      isplitl
      · iapply (zip_up (up c 0) (fun p => cred (tallyAt (dcell 3 c p) () N)) _)
        isplitl [Hc3]; · iexact Hc3
        iapply (zip_up (up c 0) (fun p => atPos ER (dcell 3 c p) 0 ∅ 0) _)
        isplitl [Ha3]; · iexact Ha3
        iapply (show (bigSep (up c 0) (fun p => owns (c : Thread nD τ) (orow p) fullShare fun j => fo ((rowR p).emb j)) : sProp 𝕄)
            ⊢ bigSep (up c 0) (fun p => iprop(∃ X, owns (c : Thread nD τ) (orow p) fullShare X)) from
          bigSep_mono fun p _ => (show (owns (c : Thread nD τ) (orow p) fullShare (fun j => fo ((rowR p).emb j)) : sProp 𝕄) ⊢ iprop(∃ X, owns (c : Thread nD τ) (orow p) fullShare X) from by
            iintro H; iexists _; iexact H))
        iexact Hout
      iempintro
    iexists _; iexact Hoc
  iintro %v6 ⟨Ho, Hg, Hoc⟩
  -- the rest of the last waits
  iapply (show iprop(outSt m ρ K c 1 ∗ (outSt m ρ K c 8 -∗ Q ⟨⟩)) ⊢ _ from ?_) $$ [-]
  refine out_block m ρ K c (1 : Dev nD) (by revert c; decide) _ _ (fun _ => sem_at0 1 rfl _) (fun _ => sem_at2 1 rfl _) _ _ _ _ _ ?_
  refine out_block m ρ K c (2 : Dev nD) (by revert c; decide) _ _ (fun _ => sem_at0 2 rfl _) (fun _ => sem_at2 2 rfl _) _ _ _ _ _ ?_
  refine out_block m ρ K c (3 : Dev nD) (by revert c; decide) _ _ (fun _ => sem_at0 3 rfl _) (fun _ => sem_at2 3 rfl _) _ _ _ _ _ ?_
  refine out_block m ρ K c (4 : Dev nD) (by revert c; decide) _ _ (fun _ => sem_at0 4 rfl _) (fun _ => sem_at2 4 rfl _) _ _ _ _ _ ?_
  refine out_block m ρ K c (5 : Dev nD) (by revert c; decide) _ _ (fun _ => sem_at0 5 rfl _) (fun _ => sem_at2 5 rfl _) _ _ _ _ _ ?_
  refine out_block m ρ K c (6 : Dev nD) (by revert c; decide) _ _ (fun _ => sem_at0 6 rfl _) (fun _ => sem_at2 6 rfl _) _ _ _ _ _ ?_
  refine out_block m ρ K c (7 : Dev nD) (by revert c; decide) _ _ (fun _ => sem_at0 7 rfl _) (fun _ => sem_at2 7 rfl _) _ _ _ _ _ ?_
  exact (wand_use _ _).trans (ret_intro c _)
  isplitl [Ho]; · iexact Ho
  unfold outSt agEnd
  rw [dn_last, ← up_zero]
  iintro ⟨-, -, HO, -, Hdn⟩
  icases Hg with ⟨Hsc, Hg⟩
  -- everything the peers had is back: counters, rows, slots and shares
  ihave Hdn := (unzip_up (up c 0) _ _) $$ Hdn
  icases Hdn with ⟨Hy0, Hdn⟩
  ihave Hdn := (unzip_up (up c 0) _ _) $$ Hdn
  icases Hdn with ⟨Hy2, Hdn⟩
  ihave Hdn := (unzip_up (up c 0) _ _) $$ Hdn
  icases Hdn with ⟨Hp, Hk2⟩
  ihave Hd1 := (unzip_up (up c 0) _ _) $$ Hd1
  icases Hd1 with ⟨Hy1, Hrs⟩
  ihave Hg := (unzip_up (up c 0) _ _) $$ Hg
  icases Hg with ⟨Hy3, Hg⟩
  ihave Hg := (unzip_up (up c 0) _ _) $$ Hg
  icases Hg with ⟨Hag, Hout⟩
  iapply Hk
  unfold bodyEnd inputs scratch zeros
  isplitl [HO]; · iexact HO
  isplitl [Hx Hi Hw]
  · isplitl [Hx]; · iexact Hx
    isplitl [Hi]; · iexact Hi
    iexact Hw
  isplitl [Hoc Hout]
  · iapply (rows_join c oM (outv m ρ c))
    rw [bigSep_congr (s := Finset.univ) (fun (p : Dev nD) _ => congrArg (owns (c : Thread nD τ) (orow p) fullShare) (outv_row m ρ c p)), all_split c]
    isplitl [Hoc]; · iexact Hoc
    iexact Hout
  isplitr [HzB Hz0 Hz1 Hz2 Hz3 Hy0 Hy1 Hy2 Hy3]
  · isplitl [Hpc Hp]
    · iexists (partq m ρ c)
      iapply (rows_join c pM (partq m ρ c))
      rw [all_split c]
      isplitl [Hpc]; · iexact Hpc
      iexact Hp
    isplitl [Hsc]; · iexists _; iexact Hsc
    isplitl [Hsr Hrs]
    · iapply (slots_join c rsM)
      rw [all_split c]
      isplitl [Hsr]; · iexact Hsr
      iapply (show (bigSep (up c 0) (fun p => owns (c : Thread nD τ) (slotM rsM p) fullShare (prow m ρ p c)) : sProp 𝕄)
          ⊢ bigSep (up c 0) (fun p => slotAny rsM c p) from bigSep_mono fun p _ => slot_forget c p rsM _)
      iexact Hrs
    isplitl [Hkc Hkd Hk2]
    · iexists (redq m ρ c)
      iapply (toks_join c (redq m ρ c))
      rw [all_split c]
      isplitl [Hkd]; · iexact Hkd
      isplitl [Hkc]; · iexact Hkc
      iexact Hk2
    iapply (slots_join c agM)
    rw [all_split c]
    isplitl [Hsg]; · iexact Hsg
    iapply (show (bigSep (up c 0) (fun p => owns (c : Thread nD τ) (slotM agM p) fullShare (redq m ρ p)) : sProp 𝕄)
        ⊢ bigSep (up c 0) (fun p => slotAny agM c p) from bigSep_mono fun p _ => slot_forget c p agM _)
    iexact Hag
  rw [all_split c, all_split c, all_split c, all_split c]
  isplitl [HzB]; · iexact HzB
  isplitl [Hz0 Hy0]
  · isplitl [Hz0]; · iexact Hz0
    iexact Hy0
  isplitl [Hz1 Hy1]
  · isplitl [Hz1]; · iexact Hz1
    iexact Hy1
  isplitl [Hz2 Hy2]
  · isplitl [Hz2]; · iexact Hz2
    iexact Hy2
  isplitl [Hz3]; · iexact Hz3
  iexact Hy3

end Cert.KernelIdeal.Run
-- ==== Proof.Launch.lean ====
/-
# The launch and the run

What the launch deals each device, how the duty tokens reach the devices that pay them, and the run of the whole
machine: every device ends with the result of `outv`, its arguments as they were, and every counter at zero.
-/
module
public import proofs.«01_k».proof.Proof.Body
public import Idealize.ShloMosaic.Lib.Pipeline.Frame
public import Idealize.ShloMosaic.Lib.Pipeline.Launch

@[expose] public section

set_option backward.proofsInPublic true

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536

/-! ## The pipeline's proof data -/

/-- What a device holds before its body: the exchange's ghost state, what the peers will bring, and the scratch buffers. -/
def start (c : Dev nD) : sProp 𝕄 := iprop((∃ K, records m ρ K ∗ linear c) ∗ incoming c ∗ levAts L lv)
def Φ₀ (c : Dev nD) : sProp 𝕄 := iprop(start m ρ c ∗ scratch c)
def Φ₁ (c : Dev nD) : sProp 𝕄 := iprop(scratch (F := F) c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => ist m ρ c
    | ⟨2, _⟩ => wst m ρ c
    | ⟨3, _⟩ => outv m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

def bodyPre (c : Dev nD) : sProp 𝕄 :=
  iprop(Φ₀ m ρ c ∗ (dats m ρ 0 c).owesAt () t0_0.castSucc
    ∗ (∃ d, owns (c : Thread nD τ) xM fullShare ((dats m ρ 0 c).before (0 : Fin 4) t0_0 d))
    ∗ (∃ d, owns (c : Thread nD τ) iM fullShare ((dats m ρ 0 c).before (1 : Fin 4) t0_0 d))
    ∗ (∃ d, owns (c : Thread nD τ) wM fullShare ((dats m ρ 0 c).before (2 : Fin 4) t0_0 d))
    ∗ (∃ d, owns (c : Thread nD τ) oM fullShare ((dats m ρ 0 c).before (3 : Fin 4) t0_0 d)))
def bodyPost (c : Dev nD) : sProp 𝕄 :=
  iprop(Φ₁ (F := F) c ∗ (dats m ρ 0 c).owesAt () t0_0.succ
    ∗ owns (c : Thread nD τ) xM fullShare (xst m ρ c) ∗ owns (c : Thread nD τ) iM fullShare (ist m ρ c)
    ∗ owns (c : Thread nD τ) wM fullShare (wst m ρ c) ∗ owns (c : Thread nD τ) oM fullShare (outv m ρ c))

/-- The body from the pipeline's state to the pipeline's state. -/
theorem sound_body (c : Dev nD) :
    bodyPre m ρ c ⊢ wpB c (cc0_body (F := F) xM (Memref.isWhole_whole _) iM (Memref.isWhole_whole _) wM (Memref.isWhole_whole _) oM (Memref.isWhole_whole _) pM (Memref.isWhole_whole _) scM (Memref.isWhole_whole _) rsM (Memref.isWhole_whole _) rdM (Memref.isWhole_whole _) agM (Memref.isWhole_whole _)
        cc0_scratch5 cc0_scratch6 cc0_scratch7 cc0_scratch8) fun _ => bodyPost m ρ c := by
  unfold bodyPre Φ₀ start
  iintro ⟨⟨⟨⟨%K, Hrec, Hlin⟩, Hin, Hlev⟩, Hs⟩, Ho, ⟨%d0, Hx⟩, ⟨%d1, Hi⟩, ⟨%d2, Hw⟩, ⟨%d3, Hout⟩⟩
  rw [show (dats m ρ 0 c).before (0 : Fin 4) t0_0 d0 = xst m ρ c from by unfold Dat.before; rw [if_pos (fetch0_0 t0_0)]; rfl,
    show (dats m ρ 0 c).before (1 : Fin 4) t0_0 d1 = ist m ρ c from by unfold Dat.before; rw [if_pos (fetch0_1 t0_0)]; rfl,
    show (dats m ρ 0 c).before (2 : Fin 4) t0_0 d2 = wst m ρ c from by unfold Dat.before; rw [if_pos (fetch0_2 t0_0)]; rfl]
  unfold Dat.owesAt Pipeline.owesWithin
  rw [show (dats m ρ 0 c).owed t0_0.castSucc = O₀ c from rfl]
  icases Ho with ⟨%W, %hW, HO⟩
  iapply (body_wp m ρ K c)
  isplitl
  · isplitl [Hrec]; · iexact Hrec
    isplitl [Hlev]; · iexact Hlev
    isplitl [HO]; · unfold owing; iexists W; iexact HO
    isplitl [Hlin]; · iexact Hlin
    isplitl [Hin]; · iexact Hin
    isplitl [Hx Hi Hw]
    · unfold inputs
      isplitl [Hx]; · iexact Hx
      isplitl [Hi]; · iexact Hi
      iexact Hw
    isplitl [Hout]; · iexists _; iexact Hout
    iexact Hs
  unfold bodyEnd bodyPost Φ₁ inputs owing Dat.owesAt Pipeline.owesWithin
  rw [show (dats m ρ 0 c).owed t0_0.succ = 0 from rfl]
  iintro ⟨⟨%W', HO⟩, ⟨Hx, Hi, Hw⟩, Hout, Hs, Hz⟩
  isplitl [Hs Hz]
  · isplitl [Hs]; · iexact Hs
    iexact Hz
  isplitl [HO]
  · iexists W'
    isplitr; · ipureintro; exact fun _ _ => Or.inl trivial
    iexact HO
  isplitl [Hx]; · iexact Hx
  isplitl [Hi]; · iexact Hi
  isplitl [Hw]; · iexact Hw
  iexact Hout

/-- The body obligation of the pipeline on device `c`. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from bigSep_W0,
    show ∀ Φ : Fin cfg0.W → sProp 𝕄, bigSep Finset.univ Φ = iprop(Φ (0 : Fin 4) ∗ Φ (1 : Fin 4) ∗ Φ (2 : Fin 4) ∗ Φ (3 : Fin 4)) from bigSep_W0]
  exact sound_body m ρ c

end Cert.KernelIdeal.Run
-- ==== Proof.Run.lean ====
/-
# The launch and the run

What the launch deals each device, how the duty tokens reach the devices that pay them, and the run of the whole
machine: every device ends with the result of `outv`, its arguments as they were, and every counter at zero.
-/
module
public import proofs.«01_k».proof.Proof.Launch
public import Idealize.ShloMosaic.Lib.Pipeline.CollectiveSegs

@[expose] public section

set_option backward.proofsInPublic true

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536

/-! ## Indices -/

theorem kcell_injective : Function.Injective (kcell : Dev nD × Option (Fin 32) → GSem nD τ sig) := by
  rintro ⟨c, k⟩ ⟨c', k'⟩ h
  have h1 : c = c' := congrArg (fun g : GSem nD τ sig => g.1.1) h
  subst h1
  have h2 : csem k = csem k' := congrArg Prod.snd h
  have h3 : k = k' := by
    match k, k', h2 with
    | none, none, _ => rfl
    | some i, some j, h2 =>
      have h4 : dsem i = dsem j := SemLoc.dma.inj h2
      have h5 : 4 + i.val = 4 + j.val := congrArg Fin.val h4
      exact congrArg some (Fin.ext (by omega))
  subst h3; rfl

def ringCells : Finset (GSem nD τ sig) := Finset.univ.map ⟨kcell, kcell_injective⟩

theorem dcell_inj {b b' : Fin 4} {c c' p p' : Dev nD} (h : dcell b c p = dcell b' c' p') : b = b' ∧ c = c' ∧ p = p' := by
  have h1 : c = c' := congrArg (fun g : GSem nD τ sig => g.1.1) h
  have h2 : dsem (six b p) = dsem (six b' p') := SemLoc.dma.inj (congrArg Prod.snd h)
  exact ⟨by rw [← arrOf_six b p, h2, arrOf_six], h1, by rw [← peerOf_six b p, h2, peerOf_six]⟩

/-- A device's own cells' duties: each peer's on its barrier, and one on each of the four semaphores of each peer. -/
abbrev tokOf (x : (_ : Dev nD) × ((_ : Dev nD) × Option (Fin 4))) : GSem nD τ sig × ℕ × Dev nD := match x.2.2 with
  | none => (barCell x.1, 0, x.2.1)
  | some b => (dcell b x.1 x.2.1, 0, 0)
theorem tokOf_injective : Function.Injective (tokOf : (_ : Dev nD) × ((_ : Dev nD) × Option (Fin 4)) → GSem nD τ sig × ℕ × Dev nD) := by
  rintro ⟨c, p, b⟩ ⟨c', p', b'⟩ h
  match b, b', h with
  | none, none, h =>
    have h1 : c = c' := congrArg (fun x : GSem nD τ sig × ℕ × Dev nD => x.1.1.1) h
    have h2 : p = p' := congrArg (fun x : GSem nD τ sig × ℕ × Dev nD => x.2.2) h
    subst h1; subst h2; rfl
  | some b, some b', h =>
    obtain ⟨h1, h2, h3⟩ := dcell_inj (congrArg Prod.fst h)
    subst h1; subst h2; subst h3; rfl
  | none, some b', h => exact absurd (congrArg (fun x : GSem nD τ sig × ℕ × Dev nD => x.1.2) h) (fun h => by cases h)
  | some b, none, h => exact absurd (congrArg (fun x : GSem nD τ sig × ℕ × Dev nD => x.1.2) h) (fun h => by cases h)
def ringToks : Finset (GSem nD τ sig × ℕ × Dev nD) :=
  (Finset.univ.sigma fun c : Dev nD => (up c 0).sigma fun _ => (Finset.univ : Finset (Option (Fin 4)))).map ⟨tokOf, tokOf_injective⟩

def u₀ : UU :=
  (initOf (Pipeline.cells cfgs cellOf_inj) (Pipeline.launchToks cfgs cellOf_inj), initOf ringCells ringToks)

theorem bigSep_option {I : Type} [Fintype I] [DecidableEq I] (Φ : Option I → sProp 𝕄) :
    bigSep Finset.univ Φ = iprop(Φ none ∗ bigSep Finset.univ fun i => Φ (some i)) := by
  rw [bigSep_univ_at Φ none]
  congr 1
  rw [show (Finset.univ.erase (none : Option I)) = Finset.univ.map Function.Embedding.some from by
    ext x; cases x <;> simp, bigSep_map]
  rfl

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The thirty-two semaphores are four arrays of one for each device. -/
theorem bigSep_six (Φ : Fin 32 → sProp 𝕄) : bigSep Finset.univ Φ
    = iprop((bigSep Finset.univ fun p : Dev nD => Φ (six 0 p)) ∗ (bigSep Finset.univ fun p : Dev nD => Φ (six 1 p))
      ∗ (bigSep Finset.univ fun p : Dev nD => Φ (six 2 p)) ∗ bigSep Finset.univ fun p : Dev nD => Φ (six 3 p)) := by
  rw [bigSep_univ_equiv (finProdFinEquiv : Fin 4 × Fin 8 ≃ Fin 32) Φ, bigSep_univ_prod, bigSep_four]
  have h (b : Fin 4) (p : Dev nD) : (finProdFinEquiv : Fin 4 × Fin 8 ≃ Fin 32) (b, p) = six b p := by
    refine Fin.ext ?_
    show p.val + 8 * b.val = 8 * b.val + p.val
    omega
  simp only [h]

/-- All the cells of a device: its barrier, and its four arrays. -/
theorem bigSep_cells (c : Dev nD) (Φ : GSem nD τ sig → sProp 𝕄) : (bigSep Finset.univ fun k : Option (Fin 32) => Φ (kcell (c, k)))
    = iprop(Φ (barCell c) ∗ (bigSep Finset.univ fun p => Φ (dcell 0 c p)) ∗ (bigSep Finset.univ fun p => Φ (dcell 1 c p))
      ∗ (bigSep Finset.univ fun p => Φ (dcell 2 c p)) ∗ bigSep Finset.univ fun p => Φ (dcell 3 c p)) := by
  rw [bigSep_option, bigSep_six]

/-! ## What the launch deals -/

/-- The duty tokens of device `c`'s own cells. -/
def toks (c : Dev nD) : sProp 𝕄 :=
  iprop((bigSep (up c 0) fun p => dutyTok ER (barCell c) 0 p)
    ∗ (bigSep (up c 0) fun p => dutyTok ER (dcell 0 c p) 0 0) ∗ (bigSep (up c 0) fun p => dutyTok ER (dcell 1 c p) 0 0)
    ∗ (bigSep (up c 0) fun p => dutyTok ER (dcell 2 c p) 0 0) ∗ bigSep (up c 0) fun p => dutyTok ER (dcell 3 c p) 0 0)

def G (c : Dev nD) : sProp 𝕄 :=
  iprop((bigSep Finset.univ fun k : Option (Fin 32) => roundState ER (ring m ρ) (kcell (c, k)) 0)
    ∗ (bigSep Finset.univ fun k : Option (Fin 32) => iprop(atPos ER (kcell (c, k)) 0 ∅ 0 ∗ reached ER (kcell (c, k)) 0)) ∗ toks c)
def G' (c : Dev nD) : sProp 𝕄 := iprop(∃ K, records m ρ K ∗ linear c)

theorem toks_eq : bigSep ringToks (fun x => (dutyTok ER x.1 x.2.1 x.2.2 : sProp 𝕄)) = bigSep Finset.univ fun c : Dev nD => toks c := by
  unfold ringToks
  rw [bigSep_map, Pipeline.bigSep_sigma]
  refine bigSep_congr fun c _ => ?_
  rw [Pipeline.bigSep_sigma]
  unfold toks
  rw [← bigSep_sep', ← bigSep_sep', ← bigSep_sep', ← bigSep_sep']
  refine bigSep_congr fun p _ => ?_
  rw [bigSep_option, bigSep_four]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Option (Fin 32) => Φ (kcell (c, k)) := by
    unfold ringCells; rw [bigSep_map, bigSep_univ_prod]; rfl
  iintro HX
  imod (Rounds.fund ER (ring m ρ) ringCells ringToks) $$ HX with ⟨Hst, Hr, Hat, Htok⟩
  imodintro
  ihave Hst := (Entails.of_eq (hX fun g => roundState ER (ring m ρ) g 0)) $$ Hst
  ihave Hat := (Entails.of_eq (hX fun g => atPos ER g 0 ∅ 0)) $$ Hat
  ihave Hr := (Entails.of_eq (hX fun g => reached ER g 0)) $$ Hr
  ihave Htok := (Entails.of_eq toks_eq) $$ Htok
  unfold G; simp only [bigSep_sep']
  isplitl [Hst]; · iexact Hst
  isplitl [Hat Hr]
  · isplitl [Hat]; · iexact Hat
    iexact Hr
  iexact Htok

theorem ownSems0_eq (c : Dev nD) : (Pipeline.ownSems0 (Ix := Unit) (Name := ℕ) (U := UU) (Lvl := ℕ) (Val := Elt F) (τ := τ) osem c : sProp 𝕄)
    = iprop((bigSep Finset.univ fun p => semVal (dcell 0 c p) 0) ∗ (bigSep Finset.univ fun p => semVal (dcell 1 c p) 0)
      ∗ (bigSep Finset.univ fun p => semVal (dcell 2 c p) 0) ∗ bigSep Finset.univ fun p => semVal (dcell 3 c p) 0) := by
  unfold Pipeline.ownSems0; rw [bigSep_six]
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 32) => semVal (kcell (c, k)) 0 : sProp 𝕄) := by
  rw [ownSems0_eq, unscopedSems0_eq, bigSep_cells c fun g => semVal g 0]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ring m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : Option (Fin 32) => semVal (kcell (c, k)) 0) ∗ bigSep Finset.univ fun k : Option (Fin 32) => roundState ER (ring m ρ) (kcell (c, k)) 0)
      ⊢ (|={Set.univ}=> bigSep Finset.univ fun k => iprop(∃ κ : ℕ, cellInv ER (ring m ρ) κ (kcell (c, k))) : sProp 𝕄) from by
        rw [← bigSep_sep']
        exact (bigSep_mono fun k _ => (Rounds.body_intro ER (ring m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- A family over the ordered pairs of distinct devices, read the other way round. -/
theorem swap_pairs (Φ : Dev nD → Dev nD → sProp 𝕄) :
    (bigSep Finset.univ fun c : Dev nD => bigSep (up c 0) fun p => Φ c p) = bigSep Finset.univ fun c : Dev nD => bigSep (up c 0) fun p => Φ p c := by
  let e : (_ : Dev nD) × Dev nD ↪ (_ : Dev nD) × Dev nD := ⟨fun x => ⟨x.2, x.1⟩, fun x y h => by
    obtain ⟨a, b⟩ := x; obtain ⟨a', b'⟩ := y
    have h1 : b = b' := congrArg Sigma.fst h
    have h2 : a = a' := congrArg (fun z : (_ : Dev nD) × Dev nD => z.2) h
    rw [h1, h2]⟩
  have hs : ((Finset.univ : Finset (Dev nD)).sigma fun c => up c 0).map e = Finset.univ.sigma fun c => up c 0 := by
    ext ⟨a, b⟩
    simp only [Finset.mem_map, Finset.mem_sigma, Finset.mem_univ, true_and]
    constructor
    · rintro ⟨x, hx, h⟩
      have h1 : x.2 = a := congrArg Sigma.fst h
      have h2 : x.1 = b := congrArg (fun z : (_ : Dev nD) × Dev nD => z.2) h
      rw [← h1, ← h2]
      exact mem_up.mpr ⟨Nat.zero_le _, (mem_up.mp hx).2.symm⟩
    · intro h
      exact ⟨⟨b, a⟩, mem_up.mpr ⟨Nat.zero_le _, (mem_up.mp h).2.symm⟩, rfl⟩
  have h := Pipeline.bigSep_sigma Finset.univ (fun c => up c 0) (fun x : (_ : Dev nD) × Dev nD => Φ x.1 x.2)
  rw [← hs, bigSep_map, Pipeline.bigSep_sigma] at h
  exact h.symm

/-- The tokens of the duties device `c` pays. -/
def payToks (c : Dev nD) : sProp 𝕄 :=
  iprop((bigSep (up c 0) fun p => dutyTok ER (barCell p) 0 c)
    ∗ (bigSep (up c 0) fun p => dutyTok ER (dcell 0 c p) 0 0) ∗ (bigSep (up c 0) fun p => dutyTok ER (dcell 1 p c) 0 0)
    ∗ (bigSep (up c 0) fun p => dutyTok ER (dcell 2 c p) 0 0) ∗ bigSep (up c 0) fun p => dutyTok ER (dcell 3 p c) 0 0)

/-- Each token goes to the device that pays its duty. -/
theorem toks_around : (bigSep Finset.univ fun c : Dev nD => (toks c : sProp 𝕄)) = bigSep Finset.univ fun c : Dev nD => payToks c := by
  unfold toks payToks
  simp only [bigSep_sep']
  rw [swap_pairs fun c p => dutyTok ER (barCell c) 0 p, swap_pairs fun c p => dutyTok ER (dcell 1 c p) 0 0, swap_pairs fun c p => dutyTok ER (dcell 3 c p) 0 0]

theorem linear_intro (c : Dev nD) :
    iprop((bigSep Finset.univ fun k : Option (Fin 32) => atPos ER (kcell (c, k)) 0 ∅ 0) ∗ payToks c) ⊢ (linear c : sProp 𝕄) := by
  rw [bigSep_cells c fun g => atPos ER g 0 ∅ 0]
  unfold linear payToks
  iintro ⟨⟨HB, H0, H1, H2, H3⟩, Ht⟩
  isplitl [HB]; · iexact HB
  isplitl [H0]; · iexact H0
  isplitl [H1]; · iexact H1
  isplitl [H2]; · iexact H2
  isplitl [H3]; · iexact H3
  iexact Ht

/-- What is persistent goes to every member of a family. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ring m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option (Fin 32) => iprop(∃ κ : ℕ, cellInv ER (ring m ρ) κ (kcell ck))),
    bigSep_congr (s := Finset.univ) (fun (c : Dev nD) _ => bigSep_sep' Finset.univ (fun k : Option (Fin 32) => (atPos ER (kcell (c, k)) 0 ∅ 0 : sProp 𝕄)) (fun k => reached ER (kcell (c, k)) 0)),
    bigSep_sep', ← bigSep_univ_prod (fun ck : Dev nD × Option (Fin 32) => (reached ER (kcell ck) 0 : sProp 𝕄)), toks_around]
  iintro ⟨HI, ⟨Hat, #HR⟩, Htok⟩
  ihave HK := (BI.bigSep_exists_pi Finset.univ (fun (ck : Dev nD × Option (Fin 32)) (κ : ℕ) => (cellInv ER (ring m ρ) κ (kcell ck) : sProp 𝕄))) $$ HI
  icases HK with ⟨%K, #HI⟩
  iapply (spread (R := records m ρ K) (Φ := fun c => linear c) fun c _ => (show iprop(records m ρ K ∗ linear c) ⊢ G' m ρ c from by
    unfold G'; iintro H; iexists K; iexact H))
  isplitr
  · unfold records
    isplitl; · iexact HI
    iexact HR
  · iapply ((Entails.of_eq (bigSep_sep' Finset.univ (fun c : Dev nD => bigSep Finset.univ fun k : Option (Fin 32) => (atPos ER (kcell (c, k)) 0 ∅ 0 : sProp 𝕄)) payToks).symm).trans
      (bigSep_mono fun c _ => linear_intro c))
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem sum_tally_apply (S : Finset (Dev nD)) (f : Dev nD → GSem nD τ sig) (n : ℕ) (g : GSem nD τ sig) :
    (∑ p ∈ S, tallyAt (f p) () n : CellTallies nD τ sig Unit) g () = ∑ p ∈ S, if g = f p then n else 0 := by
  rw [Finset.sum_apply, Finsupp.finset_sum_apply]
  exact Finset.sum_congr rfl fun p _ => by rw [tallyAt_apply]; simp

theorem bar_ne {b : Fin 4} {c d p : Dev nD} : barCell c ≠ dcell b d p := fun h => by cases congrArg Prod.snd h

theorem owed_bar (d c : Dev nD) : O₀ d (barCell c) () = if c ∈ up d 0 then 1 else 0 := by
  unfold O₀ oAg oRs oBar
  rw [Pi.add_apply, Finsupp.add_apply, Pi.add_apply, Finsupp.add_apply, sum_tally_apply, sum_tally_apply, sum_tally_apply,
    Finset.sum_congr rfl fun p _ => if_neg bar_ne, Finset.sum_const_zero, Finset.sum_congr rfl fun p _ => if_neg bar_ne, Finset.sum_const_zero,
    Finset.sum_congr rfl fun p _ => if_congr (show barCell c = barCell p ↔ c = p from
      ⟨fun h => congrArg (fun g : GSem nD τ sig => g.1.1) h, fun h => by rw [h]⟩) rfl rfl, Finset.sum_ite_eq, Nat.zero_add, Nat.zero_add]

theorem dcell_eq_iff {b b' : Fin 4} {c d p q : Dev nD} : dcell b c p = dcell b' d q ↔ b = b' ∧ c = d ∧ p = q :=
  ⟨dcell_inj, fun ⟨h1, h2, h3⟩ => by rw [h1, h2, h3]⟩

/-- What device `d` owes at a receive semaphore of device `c`: a block if it is the semaphore kept for `d`. -/
theorem owed_dma {b : Fin 4} (hb : b = 1 ∨ b = 3) (d c p : Dev nD) : O₀ d (dcell b c p) () = if d = p then (if c ∈ up d 0 then N else 0) else 0 := by
  have hsum (b' : Fin 4) : (∑ q ∈ up d 0, if dcell b c p = dcell b' q d then N else 0) = if b = b' then (if d = p then (if c ∈ up d 0 then N else 0) else 0) else 0 := by
    rw [← Finset.sum_ite_eq (up d 0) c (fun _ => N)]
    by_cases h1 : b = b'
    · rw [if_pos h1]
      by_cases h2 : d = p
      · rw [if_pos h2]
        exact Finset.sum_congr rfl fun q _ => if_congr (dcell_eq_iff.trans ⟨fun h => h.2.1, fun h => ⟨h1, h, h2.symm⟩⟩) rfl rfl
      · rw [if_neg h2]
        exact Finset.sum_eq_zero fun q _ => if_neg fun h => h2 (dcell_inj h).2.2.symm
    · rw [if_neg h1]
      exact Finset.sum_eq_zero fun q _ => if_neg fun h => h1 (dcell_inj h).1
  unfold O₀ oAg oRs oBar
  rw [Pi.add_apply, Finsupp.add_apply, Pi.add_apply, Finsupp.add_apply, sum_tally_apply, sum_tally_apply, sum_tally_apply, hsum, hsum,
    Finset.sum_congr rfl fun q _ => if_neg (fun h => bar_ne h.symm), Finset.sum_const_zero, Nat.add_zero]
  rcases hb with rfl | rfl
  · rw [if_neg (show ¬(1 : Fin 4) = 3 by decide), if_pos rfl, Nat.zero_add]
  · rw [if_pos rfl, if_neg (show ¬(3 : Fin 4) = 1 by decide), Nat.add_zero]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_dma {b : Fin 4} (hb : b = 1 ∨ b = 3) {c p : Dev nD} (h : p ∈ up c 0) :
    tallyOn (dcell b c p) (launchCredit (Pipeline.owing O₀) 0 (dcell b c p)) = (tallyAt (dcell b c p) () N : CellTallies nD τ sig Unit) := by
  unfold tallyAt; refine congrArg _ (Finsupp.ext fun u => ?_); cases u
  rw [Pipeline.launchCredit_owing, Finsupp.single_eq_same, Finset.sum_congr rfl fun d _ => owed_dma hb d c p,
    Finset.sum_ite_eq' Finset.univ p fun d => if c ∈ up d 0 then N else 0, if_pos (Finset.mem_univ _),
    if_pos (mem_up.mpr ⟨Nat.zero_le _, (mem_up.mp h).2.symm⟩)]

/-- The semaphores on which the peers' blocks arrive. -/
def inSems (b : Fin 4) (c : Dev nD) : Finset (SemLoc sig) :=
  (up c 0).map ⟨fun p => .dma (dsem (six b p)), fun p q h => by
    have h : dsem (six b p) = dsem (six b q) := SemLoc.dma.inj h
    rw [← peerOf_six b p, h, peerOf_six]⟩

theorem creds (c : Dev nD) : (Pipeline.launchCred O₀ c : sProp 𝕄) ⊢ incoming c := by
  unfold Pipeline.launchCred incoming
  rw [bigSep_univ_at _ (SemLoc.reg barS), launch_bar]
  refine sep_mono_right ?_
  have hm (b : Fin 4) : inSems b c ⊆ Finset.univ.erase (SemLoc.reg barS) := fun x hx => by
    obtain ⟨p, -, rfl⟩ := Finset.mem_map.mp hx
    exact Finset.mem_erase.mpr ⟨fun h => (by cases h), Finset.mem_univ _⟩
  have hd : Disjoint (inSems 1 c) (inSems 3 c) := by
    refine Finset.disjoint_left.mpr fun x h1 h3 => ?_
    obtain ⟨p, -, rfl⟩ := Finset.mem_map.mp h1
    obtain ⟨q, -, h⟩ := Finset.mem_map.mp h3
    have h : dsem (six 3 q) = dsem (six 1 p) := SemLoc.dma.inj h
    have h' := congrArg arrOf h
    rw [arrOf_six, arrOf_six] at h'
    exact absurd h' (by decide)
  refine (bigSep_subset (Finset.union_subset (hm 1) (hm 3))).trans ?_
  rw [bigSep_union hd]
  have he (b : Fin 4) (hb : b = 1 ∨ b = 3) : (bigSep (inSems b c) fun sm => cred (tallyOn ((c : Thread nD τ), sm) (launchCredit (Pipeline.owing O₀) 0 ((c : Thread nD τ), sm))) : sProp 𝕄)
      = bigSep (up c 0) fun p => cred (tallyAt (dcell b c p) () N) := by
    unfold inSems
    rw [bigSep_map]
    exact bigSep_congr fun p hp => congrArg cred (launch_dma hb hp)
  rw [he 1 (.inl rfl), he 3 (.inr rfl)]
  exact Idealize.SL.BI.Entails.refl _

/-! ## The launch theorem's conditions -/

theorem ownSemFacts : Pipeline.OwnSemFacts cfg0.spec osem := by decide
theorem share_eq (c : Dev nD) (w : Fin cfg0.W) : (dats m ρ 0 c).share w = fullShare := by unfold Dat.share; split <;> rfl

/-- The router's weights, which no window stages, stay where they are. -/
def router (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ router m c) := by
  rw [Pipeline.unscopedRestP_none, show (Pipeline.unscopedRest (Ix := Unit) (Name := ℕ) (U := UU) (Lvl := ℕ) cfg0.spec c (fun b => m ((c : Thread nD τ).loc b)) : sProp 𝕄)
    = router m c from unscopedRest0_eq c _]
  iintro ⟨Hr, Hlev, Hcr, -, HG⟩
  ihave Hc := (creds (F := F) c) $$ Hcr
  imodintro
  unfold start G'
  isplitr [Hr]
  · isplitl [HG]; · iexact HG
    isplitl [Hc]; · iexact Hc
    iexact Hlev
  · iexact Hr

theorem scratch_eq (c : Dev nD) : (Pipeline.scopedRest (Ix := Unit) (Name := ℕ) (U := UU) (Lvl := ℕ) (Val := Elt F) cfg0.spec c : sProp 𝕄) = scratch c := by
  rw [scopedRest0_eq]
  unfold scratch anyAt pM scM rsM rdM agM
  simp only [owns_whole]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, ownSems0_eq, unscopedSems0_eq]
  unfold Φ₁ zeros
  iintro ⟨Hr, HB, Hz⟩
  isplitl [HB]; · iexact HB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def QC : PUnit × MemSt nD τ sig (Elt F) → Prop := fun r => ∀ c : Dev nD,
  (∀ w : Fin cfg0.W, r.2.mem ((cfg0.win w).arr.view.loc (c : Thread nD τ)) = (dats m ρ 0 c).arrAt w cfg0.N)
    ∧ r.2.mem ((c : Thread nD τ).loc main_arg1) = m ((c : Thread nD τ).loc main_arg1)

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := router m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      iintro ⟨Hu, Hx, HSI⟩
      unfold router
      icombine HSI Hx gives %hx
      imod (Pipeline.unscopedSems0_read (X := unscopedSems0 c) (c := c) fupd_intro s') $$ [Hu HSI] with ⟨%hz, HSI⟩
      · isplitl [Hu]; · iexact Hu
        iexact HSI
      imodintro
      isplitr; · ipureintro; exact ⟨Buf.eq_of_forall_mem_univ hx, hz⟩
      iexact HSI)
    (hQ := fun _ h hs => ⟨fun c => ⟨fun w => (h c).1 w, (h c).2.2.1⟩, sem_eq_zero hs fun c => (h c).2.2.2⟩)

end Cert.KernelIdeal.Run
-- ==== Proof.Final.lean ====
/-
# What the run leaves in memory

The run of `Run.lean` read at the buffers the claims name: the result holds `outv`, the four arguments hold what they held.
-/
module
public import proofs.«01_k».proof.Proof.Run

@[expose] public section

set_option backward.proofsInPublic true

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536

/-- The result window has one block, the whole array, and the body fills it. -/
theorem final_out (c : Dev nD) : (dats m ρ 0 c).arrAt (3 : Fin 4) cfg0.N = outv m ρ c := by
  have hr : (win0_3.blk (0 : Fin 1)).view.read (Elt F) ((dats m ρ 0 c).arrAt (3 : Fin 4) cfg0.N) = outv m ρ c := by
    rw [show cfg0.N = ((0 : Fin 1) : Fin cfg0.N).val + 1 from rfl, (dats m ρ 0 c).arrAt_succ (3 : Fin 4) (0 : Fin 1),
      show (cfg0.win (3 : Fin 4)).flush (0 : Fin 1) = true from by decide, if_pos rfl]
    exact View.read_write_univ _ _
  have hz : (fun a => (win0_3.index (0 : Fin 1)) a * main_v1.ty.shape.size a) = fun _ => 0 :=
    funext fun a => by fin_cases a <;> decide
  exact (Memref.read_access_unit_zero (Elt F) main_v1 hz (fun a => by fin_cases a <;> decide) _).symm.trans hr

/-- The run: the result on every device, the arguments as they were, the counters at zero. -/
theorem run : θ_run defs (onTc (τ := τ) (main (F := F))) (s₀ m ρ) (fun r => (∀ c : Dev nD,
    r.2.mem ((c.tc : Thread nD τ).loc main_v1) = outv m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 (3 : Fin 4)).trans (final_out m ρ c),
    ((h.1 c).1 (0 : Fin 4)).trans ((dats m ρ 0 c).arrAt_in (0 : Fin 4) rfl _), (h.1 c).2,
    ((h.1 c).1 (1 : Fin 4)).trans ((dats m ρ 0 c).arrAt_in (1 : Fin 4) rfl _),
    ((h.1 c).1 (2 : Fin 4)).trans ((dats m ρ 0 c).arrAt_in (2 : Fin 4) rfl _)⟩, h.2⟩) (run_main m ρ)

end Cert.KernelIdeal.Run
-- ==== Proof.Codes.lean ====
/-
# Codes

A code is an eight-bit integer: a number divided by its row's scale, rounded to the nearest whole number with ties to even,
and clipped to the whole numbers from -127 to 127. Over the extended reals such a code stands for exactly the clipped
number, the code of zero is zero, and a sum of bytes in which one byte at most is not zero is that byte.
-/
module

public import Idealize.ShloMosaic.PureOps.Ideal
public import Idealize.ShloMosaic.PureOps.Ideal.Laws
public import Idealize.ShloMosaic.Lib.IdealHost

@[expose] public section

set_option backward.proofsInPublic true

noncomputable section

namespace Cert.Codes

open Idealize.ShloMosaic

/-- The upper end of the range of codes. -/
theorem top_word : Ideal.ofBits .f32 0x42FE0000#32 = ((127 : ℝ) : EReal) := by
  simp [Ideal.ofBits, Ideal.ieee, -EReal.coe_mul]; norm_num

/-- The lower end of the range of codes. -/
theorem bot_word : Ideal.ofBits .f32 0xC2FE0000#32 = ((-127 : ℝ) : EReal) := by
  simp [Ideal.ofBits, Ideal.ieee, -EReal.coe_mul]; norm_num

/-- The least scale is a positive number. -/
theorem least_pos : (0 : EReal) < Ideal.ofBits .f32 0x1E3CE508#32 := by
  simp [Ideal.ofBits, Ideal.ieee, -EReal.coe_mul]

/-- The number a code stands for: the quotient, rounded and clipped. -/
def clipped (z s : EReal) : EReal :=
  min (Ideal.ofBits .f32 0x42FE0000#32)
    (max (Ideal.ofBits .f32 0xC2FE0000#32) (Ideal.liftRound Ideal.roundHalfEven (Ideal.div z s)))

/-- The code itself. -/
def code (z s : EReal) : BitVec 8 := Ideal.fptosi 8 (clipped z s)

/-- A rounded and clipped number is a whole number from -127 to 127. -/
theorem clipped_int (z s : EReal) : ∃ k : ℤ, -127 ≤ k ∧ k ≤ 127 ∧ clipped z s = ((k : ℝ) : EReal) := by
  unfold clipped
  rw [top_word, bot_word]
  induction Ideal.div z s using EReal.rec with
  | bot =>
    refine ⟨-127, le_refl _, by norm_num, ?_⟩
    rw [Ideal.liftRound_bot, max_eq_left bot_le, min_eq_right (by exact_mod_cast (by norm_num : (-127 : ℝ) ≤ 127))]
    norm_num
  | top =>
    refine ⟨127, by norm_num, le_refl _, ?_⟩
    rw [Ideal.liftRound_top, max_eq_right le_top, min_eq_left le_top]
    norm_num
  | coe r =>
    refine ⟨min 127 (max (-127) (Ideal.roundHalfEven r)), by omega, by omega, ?_⟩
    rw [Ideal.liftRound_coe, ← EReal.coe_strictMono.monotone.map_max, ← EReal.coe_strictMono.monotone.map_min]
    push_cast
    rfl

/-- A code stands for the rounded and clipped number. -/
theorem code_value (z s : EReal) : (((code z s).toInt : ℝ) : EReal) = clipped z s := by
  obtain ⟨k, h1, h2, hk⟩ := clipped_int z s
  unfold code
  rw [hk]
  congr 2
  unfold Ideal.fptosi
  rw [Ideal.toIntClamped_coe]
  have hf : (if (0 : ℝ) ≤ (k : ℝ) then ⌊(k : ℝ)⌋ else ⌈(k : ℝ)⌉) = k := by
    rw [Int.floor_intCast, Int.ceil_intCast, ite_self]
  rw [hf, BitVec.toInt_ofInt]
  have hc : max (-((2 ^ (8 - 1) : ℕ) : ℤ)) (min (((2 ^ (8 - 1) : ℕ) : ℤ) - 1) k) = k := by
    norm_num
    omega
  rw [hc]
  exact Int.bmod_eq_of_le (by norm_num; omega) (by norm_num; omega)

/-- The code of zero is zero, at any scale but zero. -/
theorem code_zero {s : EReal} (hs : s ≠ 0) : code 0 s = 0#8 := by
  have h : clipped 0 s = ((0 : ℝ) : EReal) := by
    unfold clipped
    rw [Ideal.zero_div hs, top_word, bot_word, ← EReal.coe_zero, Ideal.liftRound_coe]
    have h0 : Ideal.roundHalfEven 0 = 0 := by
      unfold Ideal.roundHalfEven; norm_num
    rw [h0, ← EReal.coe_strictMono.monotone.map_max, ← EReal.coe_strictMono.monotone.map_min]
    norm_num
  unfold code
  rw [h]
  unfold Ideal.fptosi
  rw [Ideal.toIntClamped_coe]
  norm_num

/-! ## Adding bytes -/

/-- A byte plus zero, the sum taken at 32 bits and cut back to eight. -/
theorem add_zero_byte (a : BitVec 8) : ((a.signExtend 32) + ((0#8).signExtend 32)).setWidth 8 = a := by
  revert a; decide

/-- Zero plus a byte, the sum taken at 32 bits and cut back to eight. -/
theorem zero_add_byte (a : BitVec 8) : (((0#8).signExtend 32) + (a.signExtend 32)).setWidth 8 = a := by
  revert a; decide

/-! ## The sum of sixteen terms of which one counts -/

/-- Adding up sixteen terms, one after the other, is their sum. -/
theorem sum_sixteen (t : Fin 16 → EReal) :
    t 0 + t 1 + t 2 + t 3 + t 4 + t 5 + t 6 + t 7 + t 8 + t 9 + t 10 + t 11 + t 12 + t 13 + t 14 + t 15 = ∑ e, t e := by
  simp only [Fin.sum_univ_castSucc, Fin.sum_univ_zero, zero_add]
  rfl

/-- The word of an expert's number. -/
def tag (e : Fin 16) : BitVec 32 := BitVec.ofNat 32 e.val

theorem tag_injective : Function.Injective tag := by decide

/-- Sixteen terms, each kept only where the word is its own number, add up to the one that is kept. -/
theorem sum_routed (w : BitVec 32) (D : Fin 16 → EReal) (e : Fin 16) (h : w = tag e) :
    (∑ e', if w = tag e' then D e' else 0) = D e := by
  subst h
  rw [Finset.sum_eq_single e]
  · rw [if_pos rfl]
  · intro b _ hb
    rw [if_neg fun he => hb (tag_injective he).symm]
  · exact fun he => absurd (Finset.mem_univ e) he

/-- And to nothing where the word is no expert's. -/
theorem sum_unrouted (w : BitVec 32) (D : Fin 16 → EReal) (h : ∀ e, w ≠ tag e) :
    (∑ e', if w = tag e' then D e' else 0) = 0 :=
  Finset.sum_eq_zero fun e _ => if_neg (h e)

/-- Device `c` holds the experts `2c` and `2c + 1`. -/
def held (c : Fin 8) (b : Fin 2) : Fin 16 := ⟨2 * c.val + b.val, by omega⟩

theorem held_injective {c c' : Fin 8} {b b' : Fin 2} (h : held c b = held c' b') : c = c' ∧ b = b' := by
  have := congrArg Fin.val h
  simp only [held] at this
  constructor <;> apply Fin.ext <;> omega

/-- What device `c` contributes: the terms of its two experts. -/
def share (w : BitVec 32) (D : Fin 16 → EReal) (c : Fin 8) : EReal :=
  (if w = tag (held c 0) then D (held c 0) else 0) + (if w = tag (held c 1) then D (held c 1) else 0)

/-- One device at most contributes anything but zero, and it contributes the whole sum. -/
theorem share_one (w : BitVec 32) (D : Fin 16 → EReal) :
    ∃ c₀ : Fin 8, share w D c₀ = (∑ e', if w = tag e' then D e' else 0) ∧ ∀ c, c ≠ c₀ → share w D c = 0 := by
  by_cases h : ∃ e, w = tag e
  · obtain ⟨e, he⟩ := h
    refine ⟨⟨e.val / 2, by omega⟩, ?_, ?_⟩
    · rw [sum_routed w D e he]
      subst he
      unfold share
      rcases Nat.mod_two_eq_zero_or_one e.val with hm | hm
      · have h0 : held ⟨e.val / 2, by omega⟩ 0 = e := Fin.ext (by simp only [held]; omega)
        have h1 : held ⟨e.val / 2, by omega⟩ 1 ≠ e := fun hh => by
          have := congrArg Fin.val hh
          simp only [held, Fin.val_one] at this; omega
        rw [h0, if_pos rfl, if_neg fun hh => h1 (tag_injective hh).symm, add_zero]
      · have h0 : held ⟨e.val / 2, by omega⟩ 1 = e := Fin.ext (by simp only [held, Fin.val_one]; omega)
        have h1 : held ⟨e.val / 2, by omega⟩ 0 ≠ e := fun hh => by
          have := congrArg Fin.val hh
          simp only [held, Fin.val_zero] at this; omega
        rw [h0, if_pos rfl, if_neg fun hh => h1 (tag_injective hh).symm, zero_add]
    · intro c hc
      subst he
      have hne : ∀ b, tag e ≠ tag (held c b) := fun b hh => hc (by
        have := congrArg Fin.val (tag_injective hh)
        simp only [held] at this
        apply Fin.ext
        simp only
        omega)
      unfold share
      rw [if_neg (hne 0), if_neg (hne 1), add_zero]
  · have h' : ∀ e, w ≠ tag e := fun e he => h ⟨e, he⟩
    have hs : ∀ c, share w D c = 0 := fun c => by
      unfold share; rw [if_neg (h' _), if_neg (h' _), add_zero]
    exact ⟨0, by rw [hs, sum_unrouted w D h'], fun c _ => hs c⟩

end Cert.Codes

end
-- ==== Proof.Routed.lean ====
/-
# The routed layer, written out

The result at a row and a column: the row's products with its expert's weights, or zero where the row names none of the
sixteen experts, divided by the row's scale, rounded, clipped, and multiplied by the scale again.
-/
module

public import proofs.«01_k».proof.Proof.Codes
public import Idealize.ShloMosaic.Lib.Pointwise

@[expose] public section

set_option backward.proofsInPublic true

noncomputable section

namespace Cert.Routed

open Idealize.ShloMosaic Cert.Codes

variable (x : (⟨2, ![512, 256]⟩ : Shape).Idx → EReal) (a : (⟨2, ![512, 1]⟩ : Shape).Idx → BitVec 32)
  (W : (⟨3, ![16, 256, 512]⟩ : Shape).Idx → EReal)

/-- The scale of a row: a constant times the root of the row's sum of squares, and no less than the least scale. -/
def scale (i : Fin 512) : EReal :=
  max (Ideal.ofBits .f32 0x3A39C576#32 * Ideal.sqrt (∑ k : Fin 256, x (ix2 i k) * x (ix2 i k))) (Ideal.ofBits .f32 0x1E3CE508#32)

theorem scale_ne_zero (i : Fin 512) : scale x i ≠ 0 :=
  (lt_of_lt_of_le least_pos (le_max_right _ _)).ne'

/-- A row times one expert's weights. -/
def product (i j : Fin 512) (e : Fin 16) : EReal := ∑ k : Fin 256, x (ix2 i k) * W (ix3 e k j)

/-- A row times its own expert's weights. -/
def routed (i j : Fin 512) : EReal := ∑ e, if a (ix2 i 0) = tag e then product x W i j e else 0

/-- The result. -/
def result (i j : Fin 512) : EReal := clipped (routed x a W i j) (scale x i) * scale x i

/-- A choice by the comparison of two words is a choice by their equality. -/
theorem select_eq {α : Type} (v w : BitVec 32) (A B : α) :
    Scalar.select (IntOp.cmpi .eq v w) A B = if v = w then A else B := by
  unfold Scalar.select IntOp.cmpi
  by_cases h : v = w
  · subst h; simp
  · have hb : (v == w) = false := beq_false_of_ne h
    rw [if_neg h, hb]
    exact if_neg (show ¬BitVec.ofBool false = 1 by decide)

end Cert.Routed

end
-- ==== Proof.Contribution.lean ====
/-
# One device's contribution

What a device computes from its inputs before anything is sent: the scales of the rows, and for each row the code of what
the device's two experts contribute to it.
-/
module

public import proofs.«01_k».proof.Proof.Routed
public import proofs.«01_k».proof.Proof.Mesh

@[expose] public section

set_option backward.proofsInPublic true

noncomputable section

namespace Cert.KernelIdeal.Run

open Cert.KernelIdeal Cert.KernelIdeal.Gen Cert.Codes
open Idealize.ShloMosaic
open Idealize.ShloMosaic.TcCoe

/-- The scales. -/
theorem pay2_apply (x : FVec Ideal S512x256 .f32) (i : Fin 512) (u : Fin 1) :
    k0_pay2 (F := Ideal) x (ix2 i u) = Routed.scale x i := by
  pointwise [k0_pay2, k0_pay1]
  rfl

/-- The scales as they are stored. -/
theorem pay3_apply (x : FVec Ideal S512x256 .f32) (i : Fin 512) (u : Fin 1) :
    k0_pay3 (F := Ideal) x (ix2 i u) = Routed.scale x i := by
  have hs := pay2_apply x i u
  pointwise [k0_pay3]
  exact hs

/-- Twice the device's number is its first expert's number. -/
theorem tag_even (c : Fin 8) : Scalar.muli (me c) 2#32 = tag (held c 0) := by
  revert c; decide

/-- And one more is its second expert's. -/
theorem tag_odd (c : Fin 8) : Scalar.addi (tag (held c 0)) 1#32 = tag (held c 1) := by
  revert c; decide

/-- A sum of terms all kept or all dropped is the sum kept or dropped. -/
theorem sum_kept (p : Prop) [Decidable p] (f : Fin 256 → EReal) :
    (∑ k, if p then f k else 0) = if p then ∑ k, f k else 0 := by
  by_cases h : p
  · simp only [if_pos h]
  · simp only [if_neg h, Finset.sum_const_zero]

/-- The codes of a device whose weights `w` are the two of its experts in the whole array `W`. -/
theorem codes_apply (c : Fin 8) (x : FVec Ideal S512x256 .f32) (a : IVec S512x1 32) (w : FVec Ideal S2x256x512 .f32)
    (W : (⟨3, ![16, 256, 512]⟩ : Shape).Idx → EReal) (hw : ∀ b k j, w (ix3 b k j) = W (ix3 (held c b) k j)) (i j : Fin 512) :
    k0_pay5 (k0_pay4 (F := Ideal) (me c) x a a w) (Scalar.ofBits .f32 0xC2FE0000#32) (ix2 i j)
      = code (share (a (ix2 i 0)) (Routed.product x W i j) c) (Routed.scale x i) := by
  have hs := pay2_apply x i 0
  pointwise [k0_pay5, k0_pay4, k0_pay1]
  rw [hs]
  have h0 : ∀ k : Fin 256, w (ix3 ⟨k.val / 256, by omega⟩ ⟨k.val % 256, by omega⟩ j) = W (ix3 (held c 0) k j) := fun k => by
    have e1 : (⟨k.val / 256, by omega⟩ : Fin 2) = 0 := Fin.ext (by show k.val / 256 = 0; omega)
    have e2 : (⟨k.val % 256, by omega⟩ : Fin 256) = k := Fin.ext (by show k.val % 256 = k.val; omega)
    rw [e1, e2, hw]
  have h1 : ∀ k : Fin 256, w (ix3 ⟨(256 + k.val) / 256, by omega⟩ ⟨(256 + k.val) % 256, by omega⟩ j) = W (ix3 (held c 1) k j) :=
    fun k => by
      have e1 : (⟨(256 + k.val) / 256, by omega⟩ : Fin 2) = 1 := Fin.ext (by show (256 + k.val) / 256 = 1; omega)
      have e2 : (⟨(256 + k.val) % 256, by omega⟩ : Fin 256) = k := Fin.ext (by show (256 + k.val) % 256 = k.val; omega)
      rw [e1, e2, hw]
  simp only [Routed.select_eq, tag_even, tag_odd, h0, h1, sum_kept]
  rfl

end Cert.KernelIdeal.Run

end
-- ==== Proof.Value.lean ====
/-
# The kernel's value

When all devices hold the same rows and the same numbers of experts, and each holds its own two experts' weights, what a
device writes is the routed layer: of the bytes added for an element one at most is not zero, and that one is the code of the
whole sum over the experts.
-/
module

public import proofs.«01_k».proof.Proof.Contribution
public import proofs.«01_k».proof.Proof.Final
public import Idealize.ShloMosaic.Lib.Layout

@[expose] public section

set_option backward.proofsInPublic true

noncomputable section

namespace Cert.KernelIdeal.Run

open Cert.KernelIdeal Cert.KernelIdeal.Gen Cert.Codes
open Idealize.ShloMosaic
open Idealize.ShloMosaic.TcCoe

variable (m : (ℓ : Loc nD τ sig) → Buf (Elt Ideal) ℓ) (ρ : Dev nD → PrngReg)

/-! ## The inputs as the kernel reads them -/

/-- The rows are read whole. -/
theorem xst_eq (c : Dev nD) : xst m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

/-- So are the numbers of the experts. -/
theorem ist_eq (c : Dev nD) : ist m ρ c = m ((c.tc : Thread nD τ).loc main_arg2) := by
  have hz : (fun a => (win0_1.index (0 : Fin 1)) a * main_arg2.ty.shape.size a) = fun _ => 0 :=
    funext fun a => by fin_cases a <;> decide
  exact Memref.read_access_unit_zero (Elt Ideal) main_arg2 hz (fun a => by fin_cases a <;> decide) _

/-- And the device's weights. -/
theorem wst_eq (c : Dev nD) : wst m ρ c = m ((c.tc : Thread nD τ).loc main_arg3) := by
  have hz : (fun a => (win0_2.index (0 : Fin 1)) a * main_arg3.ty.shape.size a) = fun _ => 0 :=
    funext fun a => by fin_cases a <;> decide
  exact Memref.read_access_unit_zero (Elt Ideal) main_arg3 hz (fun a => by fin_cases a <;> decide) _

/-! ## Rows by device -/

/-- The row of the whole array that is row `r` of device `q`. -/
def rowOf (q : Dev nD) (r : Fin 64) : Fin 512 := ⟨64 * q.val + r.val, by have h : q.val < 8 := q.isLt; omega⟩

theorem rowR_emb (q : Dev nD) (r : Fin 64) (j : Fin 512) : (rowR q).emb (ix2 r j) = ix2 (rowOf q r) j := by
  funext b
  fin_cases b
  · exact Fin.ext (row_val0 q (ix2 r j))
  · exact Fin.ext (row_val1 q (ix2 r j))

theorem srowR_emb (q : Dev nD) (r : Fin 64) (u : Fin 1) : (srowR q).emb (ix2 r u) = ix2 (rowOf q r) 0 := by
  funext b
  fin_cases b
  · refine Fin.ext ?_
    show ((srowR q).emb (ix2 r u) 0).val = 64 * q.val + r.val
    rw [Rect.emb_apply]
    show 64 * q.val + 1 * r.val = _
    omega
  · refine Fin.ext ?_
    have hu : u.val = 0 := by omega
    show ((srowR q).emb (ix2 r u) 1).val = 0
    rw [Rect.emb_apply]
    show 0 + 1 * u.val = _
    omega

/-! ## The sum of the bytes -/

/-- Where device `c₀` alone contributes, the sum of the first `k` devices' bytes is its byte once it has been added. -/
theorem redAt_one (q c₀ : Dev nD) (i : S64x512.Idx) (h : ∀ c, c ≠ c₀ → prow m ρ c q i = 0#8) (k : ℕ) (hk : k ≤ 8) :
    redAt m ρ q k i = if c₀ = q ∨ c₀.val < k then prow m ρ c₀ q i else 0#8 := by
  induction k with
  | zero =>
    show prow m ρ q q i = _
    by_cases hq : c₀ = q
    · subst hq; rw [if_pos (Or.inl rfl)]
    · rw [if_neg (by rintro (h' | h'); exact hq h'; exact absurd h' (Nat.not_lt_zero _)), h q fun e => hq e.symm]
  | succ k ih =>
    have ih := ih (by omega)
    by_cases hkq : (⟨k, hk⟩ : Dev nD) = q
    · have e : redAt m ρ q (k + 1) = redAt m ρ q k := by rw [← hkq]; exact redAt_self m ρ ⟨k, hk⟩
      rw [e, ih]
      refine if_congr ?_ rfl rfl
      have hv : k = q.val := congrArg Fin.val hkq
      constructor
      · rintro (h' | h')
        · exact Or.inl h'
        · exact Or.inr (by omega)
      · rintro (h' | h')
        · exact Or.inl h'
        · by_cases hc : c₀.val < k
          · exact Or.inr hc
          · exact Or.inl (Fin.ext (by omega))
    · have e : redAt m ρ q (k + 1) = acc (F := Ideal) (redAt m ρ q k) (prow m ρ ⟨k, hk⟩ q) :=
        redAt_ne m ρ (c := q) (p := ⟨k, hk⟩) hkq
      rw [e]
      show (BitVec.signExtend 32 (redAt m ρ q k i) + BitVec.signExtend 32 (prow m ρ ⟨k, hk⟩ q i)).setWidth 8 = _
      rw [ih]
      by_cases hc : c₀ = ⟨k, hk⟩
      · have hv : c₀.val = k := congrArg Fin.val hc
        rw [if_neg (by rintro (h' | h'); exact hkq (hc.symm.trans h'); omega), if_pos (Or.inr (by omega)), ← hc, zero_add_byte]
      · have hv : c₀.val ≠ k := fun hv => hc (Fin.ext hv)
        rw [h ⟨k, hk⟩ fun e => hc e.symm, add_zero_byte]
        refine if_congr ?_ rfl rfl
        constructor
        · rintro (h' | h')
          · exact Or.inl h'
          · exact Or.inr (by omega)
        · rintro (h' | h')
          · exact Or.inl h'
          · exact Or.inr (by omega)

/-! ## The result -/

section
variable (x : (⟨2, ![512, 256]⟩ : Shape).Idx → EReal) (a : (⟨2, ![512, 1]⟩ : Shape).Idx → BitVec 32)
  (W : (⟨3, ![16, 256, 512]⟩ : Shape).Idx → EReal)
  (hx : ∀ c : Dev nD, m ((c.tc : Thread nD τ).loc main_arg0) = x)
  (ha : ∀ c : Dev nD, m ((c.tc : Thread nD τ).loc main_arg2) = a)
  (hW : ∀ c : Dev nD, m ((c.tc : Thread nD τ).loc main_arg3) = Layout.block ⟨3, ![2, 256, 512]⟩ ⟨3, ![16, 256, 512]⟩ 0 8 c W)
include hx ha hW

/-- Device `c`'s bytes. -/
theorem prow_apply (c q : Dev nD) (r : Fin 64) (j : Fin 512) :
    prow m ρ c q (ix2 r j)
      = code (share (a (ix2 (rowOf q r) 0)) (Routed.product x W (rowOf q r) j) c) (Routed.scale x (rowOf q r)) := by
  show partq m ρ c ((rowR q).emb (ix2 r j)) = _
  rw [rowR_emb]
  unfold partq
  rw [xst_eq, ist_eq, wst_eq, hx, ha, hW]
  refine codes_apply c x a _ W (fun b k j' => ?_) _ j
  rw [Layout.block_apply]
  congr 1
  funext d
  refine Fin.ext ?_
  rw [Layout.Tiles.idx_val]
  fin_cases d
  · show c.val * 2 + b.val = 2 * c.val + b.val
    omega
  · rfl
  · rfl

/-- The bytes added up are the code of the whole sum over the experts. -/
theorem redq_apply (q : Dev nD) (r : Fin 64) (j : Fin 512) :
    redq m ρ q (ix2 r j) = code (Routed.routed x a W (rowOf q r) j) (Routed.scale x (rowOf q r)) := by
  obtain ⟨c₀, h1, h0⟩ := share_one (a (ix2 (rowOf q r) 0)) (Routed.product x W (rowOf q r) j)
  unfold redq
  rw [redAt_one m ρ q c₀ (ix2 r j) (fun c hc => by
    rw [prow_apply m ρ x a W hx ha hW c q r j, h0 c hc, code_zero (Routed.scale_ne_zero x _)]) 8 (le_refl 8),
    if_pos (Or.inr c₀.isLt), prow_apply m ρ x a W hx ha hW c₀ q r j, h1]
  rfl

/-- What a device writes is the routed layer. -/
theorem outv_apply (c : Dev nD) (i j : Fin 512) : outv m ρ c (ix2 i j) = Routed.result x a W i j := by
  have hr : inRow (ix2 i j) = ix2 (⟨i.val % 64, by omega⟩ : Fin 64) j := by
    funext b
    fin_cases b <;> rfl
  have hq : rowOf (ofRow (ix2 i j)) ⟨i.val % 64, by omega⟩ = i := by
    refine Fin.ext ?_
    show 64 * (i.val / 64) + i.val % 64 = i.val
    omega
  have hb := redq_apply m ρ x a W hx ha hW (ofRow (ix2 i j)) ⟨i.val % 64, by omega⟩ j
  have hs : srow m ρ c (ofRow (ix2 i j)) (ix2 (⟨i.val % 64, by omega⟩ : Fin 64) 0) = Routed.scale x i := by
    show scl m ρ c ((srowR _).emb _) = _
    rw [srowR_emb, hq]
    unfold scl
    rw [xst_eq, hx]
    exact pay3_apply x i 0
  show oblk m ρ c (ofRow (ix2 i j)) (inRow (ix2 i j)) = _
  rw [hr]
  pointwise [oblk, k0_pay15]
  rw [hb, hs, hq]
  show (((code _ _).toInt : ℝ) : EReal) * _ = _
  rw [code_value]
  rfl
end

end Cert.KernelIdeal.Run

end
-- ==== Proof.Reference.lean ====
/-
# The reference's value

The reference's composed operations, read at a row and a column, are the routed layer of `Routed.lean`.
-/
module

public import proofs.«01_k».proof.Proof.Routed
public import proofs.«01_k».proof.Proof.Gen.ReferenceIdeal.Run

@[expose] public section

set_option backward.proofsInPublic true

noncomputable section

namespace Cert.ReferenceIdeal.Value

open Cert.ReferenceIdeal Cert.ReferenceIdeal.Gen Cert.Codes
open Idealize.ShloMosaic Idealize.ShloMosaic.StableHlo

variable (V : Valuation τ sig (Elt Ideal))

/-- The three arrays the result depends on. -/
abbrev xOf : (⟨2, ![512, 256]⟩ : Shape).Idx → EReal := V (Proc.devRef .tc main_arg0)
abbrev aOf : (⟨2, ![512, 1]⟩ : Shape).Idx → BitVec 32 := V (Proc.devRef .tc main_arg2)
abbrev wOf : (⟨3, ![16, 256, 512]⟩ : Shape).Idx → EReal := V (Proc.devRef .tc main_arg3)

/-- The scales. -/
theorem scale_apply (i : Fin 512) (u : Fin 1) : res_main_v120 (F := Ideal) V (ix2 i u) = Routed.scale (xOf V) i := by
  pointwise [res_main_v120]
  rfl

/-- A splat of zero is zero. -/
theorem zero_splat : (id (constant (F := Ideal) S_ .f32 0x00000000#32) : FVec Ideal S_ .f32) ix0 = (0 : EReal) :=
  Ideal.ofBits_zero_f32

/-- The sum over the experts. -/
theorem routed_apply (i j : Fin 512) :
    res_main_v112 (F := Ideal) V (ix2 i j) = Routed.routed (xOf V) (aOf V) (wOf V) i j := by
  pointwise [res_main_v112, res_main_v56]
  simp only [Routed.select_eq, zero_splat]
  unfold Routed.routed
  rw [← sum_sixteen]
  rfl

/-- The term the reference's run leaves. -/
abbrev term : FVec Ideal S512x512 .f32 :=
  mulf (minimumf (broadcastInDim S512x512 ![] bcast_S_S512x512 (id (constant S_ .f32 0x42FE0000#32))) (maximumf (broadcastInDim S512x512 ![] bcast_S_S512x512 (id (constant S_ .f32 0xC2FE0000#32))) (Host.roundeven (Host.divf (res_main_v112 V) (broadcastInDim S512x512 ![0, 1] bcast_S512x1_S512x512_0_1 (res_main_v120 V)))))) (broadcastInDim S512x512 ![0, 1] bcast_S512x1_S512x512_0_1 (res_main_v120 V))

/-- It is the routed layer. -/
theorem term_apply (i j : Fin 512) : term V (ix2 i j) = Routed.result (xOf V) (aOf V) (wOf V) i j := by
  have hs := scale_apply V i 0
  have hr := routed_apply V i j
  pointwise [term]
  rw [hs, hr]
  rfl

end Cert.ReferenceIdeal.Value

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Final
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem

/-! ## The two printings of the kernel are one text

The pass that prints the kernel for reading over the extended reals rewrote no operation, so at one and the same instance
both printings are the same program, and the run proved of the second is a run of the first. -/

/-- The kernel bodies agree: same operations, same evidence. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- The tables of functions agree. -/
theorem defs_eq : Cert.Kernel.defs (F := Bits) = Cert.KernelIdeal.defs (F := Bits) :=
  congrArg (Pipeline.defs Cert.KernelIdeal.pcfgs) bodies_eq

/-! ## The frames -/

/-- The kernel as printed runs to its end on all devices, with its arguments unchanged and every counter at zero. -/
theorem frame_kernel : Cert.quiescent_Kernel := by
  intro m ρ _
  rw [defs_eq]
  exact (θ_run Cert.KernelIdeal.defs _ _).mono (fun _ h => ⟨fun c => (h.1 c).2, h.2⟩) (Cert.KernelIdeal.Run.run (F := Bits) m ρ)

/-- The same of the kernel over the extended reals. -/
theorem frame_kernelIdeal : Cert.quiescent_KernelIdeal := fun m ρ _ =>
  (θ_run Cert.KernelIdeal.defs _ _).mono (fun _ h => ⟨fun c => (h.1 c).2, h.2⟩) (Cert.KernelIdeal.Run.run (F := Ideal) m ρ)

/-- The reference is a straight line of operations on one device, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- Every device of the kernel ends with the reference's result: both are the routed layer, element by element. -/
theorem value : Cert.algebraic_KernelIdeal_ReferenceIdeal := by
  intro m g m' g' _ hm
  refine ⟨Cert.ReferenceIdeal.Value.term (StableHlo.launchContents m' 0), ?_, ?_⟩
  · refine (θ_run Cert.KernelIdeal.defs _ _).mono (fun r h c => ⟨(h.1 c).1.trans (funext fun i => ?_), (h.1 c).2⟩)
      (Cert.KernelIdeal.Run.run (F := Ideal) m g)
    rw [eq_ix2 (n0 := 512) (n1 := 512) i]
    exact (Cert.KernelIdeal.Run.outv_apply m g _ _ _ (fun c => (hm c).1) (fun c => (hm c).2.2.1) (fun c => (hm c).2.2.2) c _ _).trans
      (Cert.ReferenceIdeal.Value.term_apply (StableHlo.launchContents m' 0) _ _).symm
  · exact (θ_run Cert.ReferenceIdeal.defs _ _).mono (fun r h => h 0) (Cert.ReferenceIdeal.Value.run (F := Ideal) m' g')

/-- Everything the certificate claims. -/
theorem claim : Cert.Claim := ⟨Cert.Kernel.Gen.facts, Cert.KernelIdeal.Gen.facts, Cert.ReferenceIdeal.Gen.facts,
  frame_kernel, frame_kernelIdeal, frame_reference, trivial, value⟩

end Cert.Proof

end
